-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S32x1x9856 : Shape := ⟨3, ![32, 1, 9856]⟩
abbrev S9856x9408 : Shape := ⟨2, ![9856, 9408]⟩
abbrev S77x9408 : Shape := ⟨2, ![77, 9408]⟩
abbrev S77x18816 : Shape := ⟨2, ![77, 18816]⟩
abbrev S77x9408x2 : Shape := ⟨3, ![77, 9408, 2]⟩
abbrev S32x9856 : Shape := ⟨2, ![32, 9856]⟩
abbrev S9408x9856 : Shape := ⟨2, ![9408, 9856]⟩
abbrev S77x9408x1 : Shape := ⟨3, ![77, 9408, 1]⟩
abbrev S32x9408 : Shape := ⟨2, ![32, 9408]⟩
abbrev S256x9856 : Shape := ⟨2, ![256, 9856]⟩
abbrev S77x256 : Shape := ⟨2, ![77, 256]⟩
abbrev S32x256 : Shape := ⟨2, ![32, 256]⟩
abbrev S256x128 : Shape := ⟨2, ![256, 128]⟩
abbrev S128x256 : Shape := ⟨2, ![128, 256]⟩
abbrev S1x256 : Shape := ⟨2, ![1, 256]⟩
abbrev S256x256 : Shape := ⟨2, ![256, 256]⟩
abbrev S32x128 : Shape := ⟨2, ![32, 128]⟩
abbrev S32x9408x1 : Shape := ⟨3, ![32, 9408, 1]⟩
abbrev S32x9408x2 : Shape := ⟨3, ![32, 9408, 2]⟩
abbrev S32x1x18816 : Shape := ⟨3, ![32, 1, 18816]⟩

abbrev nBuf : Space → Nat
  | .hbm => 17
  | .vmem => 13
  | .smem => 0
  | _ => 0

abbrev bufTy : (tb : Table) → Fin (tcTables nBuf tb) → BufTy
  | .hbm, ⟨0, _⟩ => ⟨S32x1x9856, .bf16⟩
  | .hbm, ⟨1, _⟩ => ⟨S9856x9408, .i8⟩
  | .hbm, ⟨2, _⟩ => ⟨S77x9408, .i8⟩
  | .hbm, ⟨3, _⟩ => ⟨S77x18816, .bf16⟩
  | .hbm, ⟨4, _⟩ => ⟨S77x9408x2, .bf16⟩
  | .hbm, ⟨5, _⟩ => ⟨S32x9856, .bf16⟩
  | .hbm, ⟨6, _⟩ => ⟨S9408x9856, .i8⟩
  | .hbm, ⟨7, _⟩ => ⟨S77x9408x1, .bf16⟩
  | .hbm, ⟨8, _⟩ => ⟨S77x9408, .bf16⟩
  | .hbm, ⟨9, _⟩ => ⟨S77x9408x1, .bf16⟩
  | .hbm, ⟨10, _⟩ => ⟨S77x9408, .bf16⟩
  | .hbm, ⟨11, _⟩ => ⟨S32x9408, .bf16⟩
  | .hbm, ⟨12, _⟩ => ⟨S32x9408, .bf16⟩
  | .hbm, ⟨13, _⟩ => ⟨S32x9408x1, .bf16⟩
  | .hbm, ⟨14, _⟩ => ⟨S32x9408x1, .bf16⟩
  | .hbm, ⟨15, _⟩ => ⟨S32x9408x2, .bf16⟩
  | .hbm, ⟨16, _⟩ => ⟨S32x1x18816, .bf16⟩
  | .local _ .vmem, ⟨0, _⟩ => ⟨S32x9856, .bf16⟩
  | .local _ .vmem, ⟨1, _⟩ => ⟨S256x9856, .i8⟩
  | .local _ .vmem, ⟨2, _⟩ => ⟨S256x9856, .i8⟩
  | .local _ .vmem, ⟨3, _⟩ => ⟨S77x256, .i8⟩
  | .local _ .vmem, ⟨4, _⟩ => ⟨S77x256, .i8⟩
  | .local _ .vmem, ⟨5, _⟩ => ⟨S77x256, .bf16⟩
  | .local _ .vmem, ⟨6, _⟩ => ⟨S77x256, .bf16⟩
  | .local _ .vmem, ⟨7, _⟩ => ⟨S77x256, .bf16⟩
  | .local _ .vmem, ⟨8, _⟩ => ⟨S77x256, .bf16⟩
  | .local _ .vmem, ⟨9, _⟩ => ⟨S32x256, .bf16⟩
  | .local _ .vmem, ⟨10, _⟩ => ⟨S32x256, .bf16⟩
  | .local _ .vmem, ⟨11, _⟩ => ⟨S32x256, .bf16⟩
  | .local _ .vmem, ⟨12, _⟩ => ⟨S32x256, .bf16⟩
  | _, _ => ⟨S32x1x9856, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S32x9856 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x9856 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S77x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S77x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S77x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S32x1x9856 : Shape := ⟨3, ![32, 1, 9856]⟩
abbrev S9856x9408 : Shape := ⟨2, ![9856, 9408]⟩
abbrev S77x9408 : Shape := ⟨2, ![77, 9408]⟩
abbrev S77x18816 : Shape := ⟨2, ![77, 18816]⟩
abbrev S77x9408x2 : Shape := ⟨3, ![77, 9408, 2]⟩
abbrev S_ : Shape := ⟨0, ![]⟩
abbrev S77x9408x1 : Shape := ⟨3, ![77, 9408, 1]⟩
abbrev S77x128x9408 : Shape := ⟨3, ![77, 128, 9408]⟩
abbrev S77x1x9408 : Shape := ⟨3, ![77, 1, 9408]⟩
abbrev S32x1x9408 : Shape := ⟨3, ![32, 1, 9408]⟩
abbrev S32x1x9408x1 : Shape := ⟨4, ![32, 1, 9408, 1]⟩
abbrev S32x1x9408x2 : Shape := ⟨4, ![32, 1, 9408, 2]⟩
abbrev S32x1x18816 : Shape := ⟨3, ![32, 1, 18816]⟩

abbrev nBuf : Space → Nat
  | .hbm => 50
  | .vmem => 0
  | .smem => 0
  | _ => 0

abbrev bufTy : (tb : Table) → Fin (tcTables nBuf tb) → BufTy
  | .hbm, ⟨0, _⟩ => ⟨S32x1x9856, .bf16⟩
  | .hbm, ⟨1, _⟩ => ⟨S9856x9408, .i8⟩
  | .hbm, ⟨2, _⟩ => ⟨S77x9408, .i8⟩
  | .hbm, ⟨3, _⟩ => ⟨S77x18816, .bf16⟩
  | .hbm, ⟨4, _⟩ => ⟨S9856x9408, .i32⟩
  | .hbm, ⟨5, _⟩ => ⟨S77x9408, .i32⟩
  | .hbm, ⟨6, _⟩ => ⟨S77x9408x2, .bf16⟩
  | .hbm, ⟨7, _⟩ => ⟨S_, .i32⟩
  | .hbm, ⟨8, _⟩ => ⟨S9856x9408, .i32⟩
  | .hbm, ⟨9, _⟩ => ⟨S9856x9408, .i32⟩
  | .hbm, ⟨10, _⟩ => ⟨S_, .i32⟩
  | .hbm, ⟨11, _⟩ => ⟨S77x9408, .i32⟩
  | .hbm, ⟨12, _⟩ => ⟨S77x9408, .i32⟩
  | .hbm, ⟨13, _⟩ => ⟨S77x9408x1, .bf16⟩
  | .hbm, ⟨14, _⟩ => ⟨S77x9408, .bf16⟩
  | .hbm, ⟨15, _⟩ => ⟨S9856x9408, .bf16⟩
  | .hbm, ⟨16, _⟩ => ⟨S77x128x9408, .bf16⟩
  | .hbm, ⟨17, _⟩ => ⟨S77x9408, .bf16⟩
  | .hbm, ⟨18, _⟩ => ⟨S77x1x9408, .bf16⟩
  | .hbm, ⟨19, _⟩ => ⟨S77x128x9408, .bf16⟩
  | .hbm, ⟨20, _⟩ => ⟨S77x128x9408, .bf16⟩
  | .hbm, ⟨21, _⟩ => ⟨S77x1x9408, .bf16⟩
  | .hbm, ⟨22, _⟩ => ⟨S77x128x9408, .bf16⟩
  | .hbm, ⟨23, _⟩ => ⟨S77x128x9408, .bf16⟩
  | .hbm, ⟨24, _⟩ => ⟨S9856x9408, .bf16⟩
  | .hbm, ⟨25, _⟩ => ⟨S32x1x9408, .f32⟩
  | .hbm, ⟨26, _⟩ => ⟨S_, .i32⟩
  | .hbm, ⟨27, _⟩ => ⟨S9856x9408, .i32⟩
  | .hbm, ⟨28, _⟩ => ⟨S9856x9408, .i32⟩
  | .hbm, ⟨29, _⟩ => ⟨S_, .i32⟩
  | .hbm, ⟨30, _⟩ => ⟨S77x9408, .i32⟩
  | .hbm, ⟨31, _⟩ => ⟨S77x9408, .i32⟩
  | .hbm, ⟨32, _⟩ => ⟨S77x9408x1, .bf16⟩
  | .hbm, ⟨33, _⟩ => ⟨S77x9408, .bf16⟩
  | .hbm, ⟨34, _⟩ => ⟨S9856x9408, .bf16⟩
  | .hbm, ⟨35, _⟩ => ⟨S77x128x9408, .bf16⟩
  | .hbm, ⟨36, _⟩ => ⟨S77x9408, .bf16⟩
  | .hbm, ⟨37, _⟩ => ⟨S77x1x9408, .bf16⟩
  | .hbm, ⟨38, _⟩ => ⟨S77x128x9408, .bf16⟩
  | .hbm, ⟨39, _⟩ => ⟨S77x128x9408, .bf16⟩
  | .hbm, ⟨40, _⟩ => ⟨S77x1x9408, .bf16⟩
  | .hbm, ⟨41, _⟩ => ⟨S77x128x9408, .bf16⟩
  | .hbm, ⟨42, _⟩ => ⟨S77x128x9408, .bf16⟩
  | .hbm, ⟨43, _⟩ => ⟨S9856x9408, .bf16⟩
  | .hbm, ⟨44, _⟩ => ⟨S32x1x9408, .f32⟩
  | .hbm, ⟨45, _⟩ => ⟨S32x1x9408x1, .f32⟩
  | .hbm, ⟨46, _⟩ => ⟨S32x1x9408x1, .f32⟩
  | .hbm, ⟨47, _⟩ => ⟨S32x1x9408x2, .f32⟩
  | .hbm, ⟨48, _⟩ => ⟨S32x1x18816, .f32⟩
  | .hbm, ⟨49, _⟩ => ⟨S32x1x18816, .bf16⟩
  | _, _ => ⟨S32x1x9856, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩

abbrev nD : Nat := 1
abbrev τ : Topo := Topo.v7x

variable {F : FTy → Type} [FloatOps F]
-- ==== Proof.Body.lean ====
/-
  THE KERNEL'S BODY AS A LOOP. The body is printed with its 77 groups of 128 input channels written out one after the other: 38 pairs
  of groups, each one product with a [32, 256] piece of the activations, then the last group alone. Here a group's dequantized
  weights, a pair's contribution and the whole body are stated once, for any group and any pair, and `body_eq` says that the printed
  body is the loop over the pairs followed by the last group.
-/
module

public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-! ## The offsets of a group -/

/-- Group `g`'s 128 columns of the [256, 9856] block of codes. -/
theorem inbQ (g : Fin 77) : ∀ a, (![0, 128 * g.val] : Fin 2 → Nat) a + S256x128.size a ≤ S256x9856.size a := by
  intro a; fin_cases a
  · exact Nat.le_refl 256
  · have := g.isLt; show 128 * g.val + 128 ≤ 9856; omega
/-- Group `g`'s row of a [77, 256] block of zero points or scales. -/
theorem inbZ (g : Fin 77) : ∀ a, (![g.val, 0] : Fin 2 → Nat) a + S1x256.size a ≤ S77x256.size a := by
  intro a; fin_cases a
  · have := g.isLt; show g.val + 1 ≤ 77; omega
  · exact Nat.le_refl 256
/-- Pair `p`'s 256 columns of the activations. -/
theorem inbX (p : Fin 38) : ∀ a, (![0, 256 * p.val] : Fin 2 → Nat) a + S32x256.size a ≤ S32x9856.size a := by
  intro a; fin_cases a
  · exact Nat.le_refl 32
  · have := p.isLt; show 256 * p.val + 256 ≤ 9856; omega

/-- The two groups of a pair. -/
def even (p : Fin 38) : Fin 77 := ⟨2 * p.val, by have := p.isLt; omega⟩
def odd (p : Fin 38) : Fin 77 := ⟨2 * p.val + 1, by have := p.isLt; omega⟩

/-! ## What the body computes of what it has loaded -/

/-- The low nibbles of a row of zero points, as bf16. -/
def zLo (z : Vec F S1x256 .i8) : FVec F S1x256 .bf16 :=
  truncf .bf16 (sitofp (F := F) .f32 (andi (extui 32 z natLt_8_32) (broadcast S1x256 15#32))) bitsLt_bf16_f32
/-- The high nibbles of a row of zero points, as bf16. -/
def zHi (z : Vec F S1x256 .i8) : FVec F S1x256 .bf16 :=
  truncf .bf16 (sitofp (F := F) .f32 (shrsi (extui 32 z natLt_8_32) (broadcast S1x256 4#32))) bitsLt_bf16_f32
/-- A group's codes, transposed to [input channel, packed column]. -/
def codes (q : Vec F S256x128 .i8) : IVec S128x256 8 :=
  transpose S128x256 [1, 0] (shapeCast S256x128 q shapeCasts_S256x128_S256x128 : IVec S256x128 8) transposes_S256x128_p1_0_S128x256
/-- A group's dequantized weights of the even outputs (low nibbles). -/
def wLo (q : Vec F S256x128 .i8) (z : Vec F S1x256 .i8) (s : Vec F S1x256 .bf16) : FVec F S128x256 .bf16 :=
  mulf (subf (uitofp (F := F) .bf16 (andi (codes q) (broadcast S128x256 15#8)))
      (broadcastTo S128x256 (zLo z) broadcasts_S1x256_S128x256))
    (broadcastTo S128x256 (shapeCast S1x256 s shapeCasts_S1x256_S1x256 : FVec F S1x256 .bf16) broadcasts_S1x256_S128x256)
/-- A group's dequantized weights of the odd outputs (high nibbles). -/
def wHi (q : Vec F S256x128 .i8) (z : Vec F S1x256 .i8) (s : Vec F S1x256 .bf16) : FVec F S128x256 .bf16 :=
  mulf (subf (uitofp (F := F) .bf16 (trunci 8 (shrsi (extui 32 (codes q) natLt_8_32) (broadcast S128x256 4#32)) natLt_8_32))
      (broadcastTo S128x256 (zHi z) broadcasts_S1x256_S128x256))
    (broadcastTo S128x256 (shapeCast S1x256 s shapeCasts_S1x256_S1x256 : FVec F S1x256 .bf16) broadcasts_S1x256_S128x256)
/-- An accumulator after a pair of groups of weights `w₀`, `w₁`. -/
def addPair (acc : FVec F S32x256 .f32) (x : Vec F S32x256 .bf16) (w₀ w₁ : FVec F S128x256 .bf16) : FVec F S32x256 .f32 :=
  addf acc (matmul dot_S32x256_S256x256_S32x256_1_0_0_1_n_n none (shapeCast S32x256 x shapeCasts_S32x256_S32x256 : FVec F S32x256 .bf16)
    (concatenate S256x256 0 [⟨S128x256, w₀⟩, ⟨S128x256, w₁⟩] concatenates_S128x256_S128x256_S256x256_d0)
    (constant S32x256 .f32 0x00000000#32))
/-- An accumulator after the last group, of weights `w`. -/
def addLast (acc : FVec F S32x256 .f32) (x : Vec F S32x128 .bf16) (w : FVec F S128x256 .bf16) : FVec F S32x256 .f32 :=
  addf acc (matmul dot_S32x128_S128x256_S32x256_1_0_0_1_n_n none (shapeCast S32x128 x shapeCasts_S32x128_S32x128 : FVec F S32x128 .bf16)
    w (constant S32x256 .f32 0x00000000#32))
/-- The accumulators' start. -/
def acc₀ : FVec F S32x256 .f32 := broadcast S32x256 (Scalar.ofBits .f32 0x00000000#32 : F .f32)

/-! ## The body -/

section Body

variable (arg1 : Memref sig .tc .vmem S32x9856 .bf16) (arg2 : Memref sig .tc .vmem S256x9856 .i8) (arg3 : Memref sig .tc .vmem S77x256 .i8)
  (arg4 arg5 : Memref sig .tc .vmem S77x256 .bf16)

/-- The loads of group `g`, continued by `k` at its two dequantized weights. -/
def groupThen (g : Fin 77) (k : FVec F S128x256 .bf16 → FVec F S128x256 .bf16 → Prog (TpuEff nD τ sig (Elt F) Λ₀ .tc) PUnit) :
    Prog (TpuEff nD τ sig (Elt F) Λ₀ .tc) PUnit :=
  .op (.load arg2 (Rect.unit (s := S256x9856) ![0, 128 * g.val] S256x128.size (inbQ g)).toLoadRect (View.loadsAt_vmem h_S256x128)) fun q =>
  .op (.load arg3 (Rect.unit (s := S77x256) ![g.val, 0] S1x256.size (inbZ g)).toLoadRect (View.loadsAt_vmem h_S1x256)) fun z =>
  .op (.load arg4 (Rect.unit (s := S77x256) ![g.val, 0] S1x256.size (inbZ g)).toLoadRect (View.loadsAt_vmem h_S1x256)) fun sl =>
  .op (.load arg5 (Rect.unit (s := S77x256) ![g.val, 0] S1x256.size (inbZ g)).toLoadRect (View.loadsAt_vmem h_S1x256)) fun sh =>
  k (wLo q z sl) (wHi q z sh)

/-- Pair `p`, continued by `k` at the two accumulators. -/
def pairThen (p : Fin 38) (lo hi : FVec F S32x256 .f32)
    (k : FVec F S32x256 .f32 → FVec F S32x256 .f32 → Prog (TpuEff nD τ sig (Elt F) Λ₀ .tc) PUnit) :
    Prog (TpuEff nD τ sig (Elt F) Λ₀ .tc) PUnit :=
  groupThen arg2 arg3 arg4 arg5 (even p) fun l₀ h₀ => groupThen arg2 arg3 arg4 arg5 (odd p) fun l₁ h₁ =>
  .op (.load arg1 (Rect.unit (s := S32x9856) ![0, 256 * p.val] S32x256.size (inbX p)).toLoadRect (View.loadsAt_vmem h_S32x256)) fun x =>
  k (addPair lo x l₀ l₁) (addPair hi x h₀ h₁)

/-- The pairs of a list in order, continued by `k` at the two accumulators. -/
def pairsThen (k : FVec F S32x256 .f32 → FVec F S32x256 .f32 → Prog (TpuEff nD τ sig (Elt F) Λ₀ .tc) PUnit) (ps : List (Fin 38)) :
    FVec F S32x256 .f32 → FVec F S32x256 .f32 → Prog (TpuEff nD τ sig (Elt F) Λ₀ .tc) PUnit :=
  List.rec (motive := fun _ => FVec F S32x256 .f32 → FVec F S32x256 .f32 → Prog (TpuEff nD τ sig (Elt F) Λ₀ .tc) PUnit) k
    (fun p _ ih lo hi => pairThen arg1 arg2 arg3 arg4 arg5 p lo hi ih) ps

/-- The last group, and the two stores. -/
def lastThen (arg6 : Memref sig .tc .vmem S32x256 .bf16) (harg6 : arg6.IsWhole) (arg7 : Memref sig .tc .vmem S32x256 .bf16)
    (harg7 : arg7.IsWhole) (lo hi : FVec F S32x256 .f32) : Prog (TpuEff nD τ sig (Elt F) Λ₀ .tc) PUnit :=
  groupThen arg2 arg3 arg4 arg5 76 fun l h =>
  .op (.load arg1 (Rect.unit (s := S32x9856) ![0, 9728] S32x128.size inb_S32x9856_S32x128_0_9728).toLoadRect (View.loadsAt_vmem h_S32x128)) fun x =>
  .op (.load arg6 (Rect.unit (s := S32x256) ![0, 0] S32x256.size inb_S32x256_S32x256_0_0).toLoadRect (View.loadsAt_vmem h_S32x256)) fun _ =>
  .op (.store arg6 (Rect.unit (s := S32x256) ![0, 0] S32x256.size inb_S32x256_S32x256_0_0) (truncf .bf16 (addLast lo x l) bitsLt_bf16_f32)
    Finset.univ (View.stores_vmem h_S32x256 (harg6.storeExact_slice rfl _ packedbf16_S32x256_S32x256_0_0) (fun _ => rfl)) (.inl rfl)) fun _ =>
  .op (.load arg7 (Rect.unit (s := S32x256) ![0, 0] S32x256.size inb_S32x256_S32x256_0_0).toLoadRect (View.loadsAt_vmem h_S32x256)) fun _ =>
  .op (.store arg7 (Rect.unit (s := S32x256) ![0, 0] S32x256.size inb_S32x256_S32x256_0_0) (truncf .bf16 (addLast hi x h) bitsLt_bf16_f32)
    Finset.univ (View.stores_vmem h_S32x256 (harg7.storeExact_slice rfl _ packedbf16_S32x256_S32x256_0_0) (fun _ => rfl)) (.inl rfl)) fun _ =>
  .ret ⟨⟩

/-- The pairs, in the order of the body. -/
def pairs : List (Fin 38) :=
  [0, 1, 2, 3, 4, 5, 6, 7, 8, 9, 10, 11, 12, 13, 14, 15, 16, 17, 18, 19, 20, 21, 22, 23, 24, 25, 26, 27, 28, 29, 30, 31, 32, 33, 34, 35, 36, 37]

/-- THE PRINTED BODY IS THE LOOP: the 38 pairs from accumulators of zeros, then the last group and the stores. -/
theorem body_eq (i : grid0.Coords) (harg1 : arg1.IsWhole) (harg2 : arg2.IsWhole) (harg3 : arg3.IsWhole) (harg4 : arg4.IsWhole)
    (harg5 : arg5.IsWhole) (arg6 : Memref sig .tc .vmem S32x256 .bf16) (harg6 : arg6.IsWhole) (arg7 : Memref sig .tc .vmem S32x256 .bf16)
    (harg7 : arg7.IsWhole) :
    cc0__body (F := F) i arg1 harg1 arg2 harg2 arg3 harg3 arg4 harg4 arg5 harg5 arg6 harg6 arg7 harg7
      = pairsThen arg1 arg2 arg3 arg4 arg5 (lastThen arg1 arg2 arg3 arg4 arg5 arg6 harg6 arg7 harg7) pairs acc₀ acc₀ := by
  chain_rfl

end Body

end Cert.KernelIdeal.Hand

end
-- ==== Proof.Triple.lean ====
/-
  WHAT THE BODY DOES TO ITS BUFFERS. From any contents of the five input buffers and of the two output buffers, the body leaves the
  inputs as they were, the first output buffer at `outBlock` of the weights of the low nibbles, and the second at `outBlock` of those
  of the high nibbles. The proof follows the loop of `body_eq`: one rule for a load, one for a group, one for a pair, an induction
  over the pairs.
-/
module

public import proofs.«01_k».proof.Proof.Body

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The kernel's variants: none. -/
abbrev 𝒱₀ : Variants := Variants.none

/-! ## The values, as functions of the buffers' contents -/

/-- Group `g`'s weights for the even outputs, of the contents of the buffers of codes, zero points and scales. -/
def gLo (Q : S256x9856.Idx → Elt F .i8) (Z : S77x256.Idx → Elt F .i8) (S : S77x256.Idx → Elt F .bf16) (g : Fin 77) : FVec F S128x256 .bf16 :=
  wLo (View.ld Q (Rect.unit (s := S256x9856) ![0, 128 * g.val] S256x128.size (inbQ g)))
    (View.ld Z (Rect.unit (s := S77x256) ![g.val, 0] S1x256.size (inbZ g)))
    (View.ld S (Rect.unit (s := S77x256) ![g.val, 0] S1x256.size (inbZ g)))
/-- Group `g`'s weights for the odd outputs. -/
def gHi (Q : S256x9856.Idx → Elt F .i8) (Z : S77x256.Idx → Elt F .i8) (S : S77x256.Idx → Elt F .bf16) (g : Fin 77) : FVec F S128x256 .bf16 :=
  wHi (View.ld Q (Rect.unit (s := S256x9856) ![0, 128 * g.val] S256x128.size (inbQ g)))
    (View.ld Z (Rect.unit (s := S77x256) ![g.val, 0] S1x256.size (inbZ g)))
    (View.ld S (Rect.unit (s := S77x256) ![g.val, 0] S1x256.size (inbZ g)))
/-- One accumulator after pair `p`, the groups' weights being `W`. -/
def pairStep (X : S32x9856.Idx → Elt F .bf16) (W : Fin 77 → FVec F S128x256 .bf16) (acc : FVec F S32x256 .f32) (p : Fin 38) : FVec F S32x256 .f32 :=
  addPair acc (View.ld X (Rect.unit (s := S32x9856) ![0, 256 * p.val] S32x256.size (inbX p))) (W (even p)) (W (odd p))
/-- One accumulator after the last group. -/
def lastStep (X : S32x9856.Idx → Elt F .bf16) (W : Fin 77 → FVec F S128x256 .bf16) (acc : FVec F S32x256 .f32) : FVec F S32x256 .f32 :=
  addLast acc (View.ld X (Rect.unit (s := S32x9856) ![0, 9728] S32x128.size inb_S32x9856_S32x128_0_9728)) (W 76)
/-- What an output buffer holds after the body: the accumulation over the pairs in order, then the last group, in bf16. -/
def outBlock (X : S32x9856.Idx → Elt F .bf16) (W : Fin 77 → FVec F S128x256 .bf16) : S32x256.Idx → Elt F .bf16 :=
  truncf (F := F) .bf16 (lastStep X W (pairs.foldl (pairStep X W) acc₀)) bitsLt_bf16_f32

/-! ## The rules -/

section Rules

variable (c : Dev nD) (E : Set ℕ)

/-- A load of a rectangle of a buffer that holds `X` reads `X` there, and leaves the buffer as it was. -/
theorem load_rule {K : PUnit → sProp 𝕄} {s : Shape} {e : EltTy} (M : Memref sig .tc .vmem s e) (r : Rect s) (hl : M.view.LoadsAt r.toLoadRect)
    (k : (r.toLoadRect.shape.Idx → Elt F e) → Prog (TpuEff nD τ sig (Elt F) Λ₀ .tc) PUnit) (X : s.Idx → Elt F e) :
    (owns (c : Thread nD τ) M fullShare X : sProp 𝕄)
      ⊢ iprop((owns (c : Thread nD τ) M fullShare X -∗ wp frame (wpE (defs₀ (F := F)) 𝒱₀ c none) E (k (View.ld X r)) K)
        -∗ wp frame (wpE (defs₀ (F := F)) 𝒱₀ c none) E (.op (.load M r.toLoadRect hl) k) K) := by
  unfold owns
  iintro ⟨%f, %hf, H⟩ Hk
  iapply (wp_load (Ix := Unit) (Name := ℕ) (U := UR sig nD τ) (Lvl := ℕ) (Q := K) (defs := defs₀ (F := F)) 𝒱₀ (c : Thread nD τ) none E (m := M) (r := r.toLoadRect) (hl := hl) (k := k)
    (S := M.view.set) (f := f) (View.setOn_subset_set _ _)) $$ H
  iintro H
  rw [View.readAt_eq_ld, hf]
  iapply Hk
  iexists f
  isplitr; · ipureintro; exact hf
  iexact H

/-- A store over the whole of a buffer leaves it at the payload. -/
theorem store_rule {K : PUnit → sProp 𝕄} (M : Memref sig .tc .vmem S32x256 .bf16) (w : S32x256.Idx → Elt F .bf16)
    (hx : (M.access (Rect.unit (s := S32x256) ![0, 0] S32x256.size inb_S32x256_S32x256_0_0)).Stores Finset.univ)
    (hm : (Finset.univ : Finset (Rect.unit (s := S32x256) ![0, 0] S32x256.size inb_S32x256_S32x256_0_0).shape.Idx) = Finset.univ
      ∨ ∀ a, (Rect.unit (s := S32x256) ![0, 0] S32x256.size inb_S32x256_S32x256_0_0).stride a = 1)
    (k : PUnit → Prog (TpuEff nD τ sig (Elt F) Λ₀ .tc) PUnit) (Y : S32x256.Idx → Elt F .bf16) :
    (owns (c : Thread nD τ) M fullShare Y : sProp 𝕄)
      ⊢ iprop((owns (c : Thread nD τ) M fullShare w -∗ wp frame (wpE (defs₀ (F := F)) 𝒱₀ c none) E (k ⟨⟩) K)
        -∗ wp frame (wpE (defs₀ (F := F)) 𝒱₀ c none) E
          (.op (.store M (Rect.unit (s := S32x256) ![0, 0] S32x256.size inb_S32x256_S32x256_0_0) w Finset.univ hx hm) k) K) := by
  unfold owns
  iintro ⟨%f, %hf, H⟩ Hk
  iapply (wp_store (Ix := Unit) (Name := ℕ) (U := UR sig nD τ) (Lvl := ℕ) (Q := K) (defs := defs₀ (F := F)) 𝒱₀ (c : Thread nD τ) none E (m := M) (w := w) (hx := hx) (hm := hm) (k := k)
    (S := M.view.set) (f := f) (by
      refine (View.setOn_subset_set _ _).trans ?_
      rw [View.set_slice]; exact View.setOn_subset_set _ _)) $$ H
  iintro H
  iapply Hk
  iexists _
  isplitr
  rotate_left
  · iexact H
  · ipureintro
    funext x
    have h := View.read_slice_write_emb (Val := Elt F) (v := M.view)
      (Rect.unit (s := S32x256) ![0, 0] S32x256.size inb_S32x256_S32x256_0_0) f w (x := x) (Finset.mem_univ x)
    rwa [show (Rect.unit (s := S32x256) ![0, 0] S32x256.size inb_S32x256_S32x256_0_0).emb x = x from funext fun a => Fin.ext (by
      fin_cases a <;> exact (Nat.zero_add _).trans (Nat.one_mul _))] at h

variable (arg1 : Memref sig .tc .vmem S32x9856 .bf16) (arg2 : Memref sig .tc .vmem S256x9856 .i8) (arg3 : Memref sig .tc .vmem S77x256 .i8)
  (arg4 arg5 : Memref sig .tc .vmem S77x256 .bf16)
  (X : S32x9856.Idx → Elt F .bf16) (Q : S256x9856.Idx → Elt F .i8) (Z : S77x256.Idx → Elt F .i8) (SL SH : S77x256.Idx → Elt F .bf16)

/-- The five input buffers, held at their contents. -/
def held : sProp 𝕄 :=
  iprop(owns (c : Thread nD τ) arg1 fullShare X ∗ owns (c : Thread nD τ) arg2 fullShare Q ∗ owns (c : Thread nD τ) arg3 fullShare Z
    ∗ owns (c : Thread nD τ) arg4 fullShare SL ∗ owns (c : Thread nD τ) arg5 fullShare SH)

/-- A group's four loads give its two weights. -/
theorem group_rule {K : PUnit → sProp 𝕄} (g : Fin 77) (k : FVec F S128x256 .bf16 → FVec F S128x256 .bf16 → Prog (TpuEff nD τ sig (Elt F) Λ₀ .tc) PUnit) :
    held c arg1 arg2 arg3 arg4 arg5 X Q Z SL SH
      ⊢ iprop((held c arg1 arg2 arg3 arg4 arg5 X Q Z SL SH -∗ wp frame (wpE (defs₀ (F := F)) 𝒱₀ c none) E (k (gLo Q Z SL g) (gHi Q Z SH g)) K)
        -∗ wp frame (wpE (defs₀ (F := F)) 𝒱₀ c none) E (groupThen arg2 arg3 arg4 arg5 g k) K) := by
  unfold held groupThen
  iintro ⟨H1, H2, H3, H4, H5⟩ Hk
  iapply (load_rule c E arg2 _ _ _ Q) $$ H2; iintro H2
  iapply (load_rule c E arg3 _ _ _ Z) $$ H3; iintro H3
  iapply (load_rule c E arg4 _ _ _ SL) $$ H4; iintro H4
  iapply (load_rule c E arg5 _ _ _ SH) $$ H5; iintro H5
  iapply Hk
  isplitl [H1]; · iexact H1
  isplitl [H2]; · iexact H2
  isplitl [H3]; · iexact H3
  isplitl [H4]; · iexact H4
  iexact H5

/-- The load of a piece of the activations, the input buffers held. -/
theorem loadX_rule {K : PUnit → sProp 𝕄} (r : Rect S32x9856) (hl : arg1.view.LoadsAt r.toLoadRect)
    (k : (r.toLoadRect.shape.Idx → Elt F .bf16) → Prog (TpuEff nD τ sig (Elt F) Λ₀ .tc) PUnit) :
    held c arg1 arg2 arg3 arg4 arg5 X Q Z SL SH
      ⊢ iprop((held c arg1 arg2 arg3 arg4 arg5 X Q Z SL SH -∗ wp frame (wpE (defs₀ (F := F)) 𝒱₀ c none) E (k (View.ld X r)) K)
        -∗ wp frame (wpE (defs₀ (F := F)) 𝒱₀ c none) E (.op (.load arg1 r.toLoadRect hl) k) K) := by
  unfold held
  iintro ⟨H1, H2⟩ Hk
  iapply (load_rule c E arg1 r hl k X) $$ H1; iintro H1
  iapply Hk
  isplitl [H1]; · iexact H1
  iexact H2

/-- A pair's two groups and its product move both accumulators one step. -/
theorem pair_rule {K : PUnit → sProp 𝕄} (p : Fin 38) (lo hi : FVec F S32x256 .f32)
    (k : FVec F S32x256 .f32 → FVec F S32x256 .f32 → Prog (TpuEff nD τ sig (Elt F) Λ₀ .tc) PUnit) :
    held c arg1 arg2 arg3 arg4 arg5 X Q Z SL SH
      ⊢ iprop((held c arg1 arg2 arg3 arg4 arg5 X Q Z SL SH
          -∗ wp frame (wpE (defs₀ (F := F)) 𝒱₀ c none) E (k (pairStep X (gLo Q Z SL) lo p) (pairStep X (gHi Q Z SH) hi p)) K)
        -∗ wp frame (wpE (defs₀ (F := F)) 𝒱₀ c none) E (pairThen arg1 arg2 arg3 arg4 arg5 p lo hi k) K) := by
  unfold pairThen
  iintro H Hk
  iapply (group_rule c E arg1 arg2 arg3 arg4 arg5 X Q Z SL SH (even p) _) $$ H; iintro H
  iapply (group_rule c E arg1 arg2 arg3 arg4 arg5 X Q Z SL SH (odd p) _) $$ H; iintro H
  iapply (loadX_rule c E arg1 arg2 arg3 arg4 arg5 X Q Z SL SH _ _ _) $$ H; iintro H
  iapply Hk
  iexact H

/-- The pairs of a list move both accumulators through it, by induction on the list. -/
theorem pairs_rule {K : PUnit → sProp 𝕄} (k : FVec F S32x256 .f32 → FVec F S32x256 .f32 → Prog (TpuEff nD τ sig (Elt F) Λ₀ .tc) PUnit) (ps : List (Fin 38)) :
    ∀ lo hi : FVec F S32x256 .f32, held c arg1 arg2 arg3 arg4 arg5 X Q Z SL SH
      ⊢ iprop((held c arg1 arg2 arg3 arg4 arg5 X Q Z SL SH
          -∗ wp frame (wpE (defs₀ (F := F)) 𝒱₀ c none) E
            (k (ps.foldl (pairStep X (gLo Q Z SL)) lo) (ps.foldl (pairStep X (gHi Q Z SH)) hi)) K)
        -∗ wp frame (wpE (defs₀ (F := F)) 𝒱₀ c none) E (pairsThen arg1 arg2 arg3 arg4 arg5 k ps lo hi) K) := by
  induction ps with
  | nil =>
    intro lo hi
    iintro H Hk
    iapply Hk
    iexact H
  | cons p ps ih =>
    intro lo hi
    iintro H Hk
    iapply (pair_rule c E arg1 arg2 arg3 arg4 arg5 X Q Z SL SH p lo hi (pairsThen arg1 arg2 arg3 arg4 arg5 k ps)) $$ H; iintro H
    iapply (ih _ _) $$ H; iintro H
    iapply Hk
    iexact H

/-- The last group and the stores. -/
theorem last_rule {K : PUnit → sProp 𝕄} (arg6 : Memref sig .tc .vmem S32x256 .bf16) (harg6 : arg6.IsWhole) (arg7 : Memref sig .tc .vmem S32x256 .bf16)
    (harg7 : arg7.IsWhole) (lo hi : FVec F S32x256 .f32) (Y6 Y7 : S32x256.Idx → Elt F .bf16) :
    iprop(held c arg1 arg2 arg3 arg4 arg5 X Q Z SL SH ∗ owns (c : Thread nD τ) arg6 fullShare Y6 ∗ owns (c : Thread nD τ) arg7 fullShare Y7)
      ⊢ iprop((iprop(held c arg1 arg2 arg3 arg4 arg5 X Q Z SL SH
            ∗ owns (c : Thread nD τ) arg6 fullShare (truncf (F := F) .bf16 (lastStep X (gLo Q Z SL) lo) bitsLt_bf16_f32)
            ∗ owns (c : Thread nD τ) arg7 fullShare (truncf (F := F) .bf16 (lastStep X (gHi Q Z SH) hi) bitsLt_bf16_f32)) -∗ K ⟨⟩)
        -∗ wp frame (wpE (defs₀ (F := F)) 𝒱₀ c none) E (lastThen arg1 arg2 arg3 arg4 arg5 arg6 harg6 arg7 harg7 lo hi) K) := by
  unfold lastThen
  iintro ⟨H, H6, H7⟩ Hk
  iapply (group_rule c E arg1 arg2 arg3 arg4 arg5 X Q Z SL SH 76 _) $$ H; iintro H
  iapply (loadX_rule c E arg1 arg2 arg3 arg4 arg5 X Q Z SL SH _ _ _) $$ H; iintro H
  iapply (load_rule c E arg6 _ _ _ Y6) $$ H6; iintro H6
  iapply (store_rule c E arg6 _ _ _ _ Y6) $$ H6; iintro H6
  iapply (load_rule c E arg7 _ _ _ Y7) $$ H7; iintro H7
  iapply (store_rule c E arg7 _ _ _ _ Y7) $$ H7; iintro H7
  rw [wp_ret]
  imodintro
  iapply Hk
  isplitl [H]; · iexact H
  isplitl [H6]; · iexact H6
  iexact H7

/-- THE BODY'S TRIPLE: the inputs are left as they were, the outputs at `outBlock` of the two families of weights. -/
theorem body_rule {K : PUnit → sProp 𝕄} (i : grid0.Coords) (harg1 : arg1.IsWhole) (harg2 : arg2.IsWhole) (harg3 : arg3.IsWhole) (harg4 : arg4.IsWhole)
    (harg5 : arg5.IsWhole) (arg6 : Memref sig .tc .vmem S32x256 .bf16) (harg6 : arg6.IsWhole) (arg7 : Memref sig .tc .vmem S32x256 .bf16)
    (harg7 : arg7.IsWhole) (Y6 Y7 : S32x256.Idx → Elt F .bf16) :
    iprop(held c arg1 arg2 arg3 arg4 arg5 X Q Z SL SH ∗ owns (c : Thread nD τ) arg6 fullShare Y6 ∗ owns (c : Thread nD τ) arg7 fullShare Y7)
      ⊢ iprop((iprop(held c arg1 arg2 arg3 arg4 arg5 X Q Z SL SH
            ∗ owns (c : Thread nD τ) arg6 fullShare (outBlock X (gLo Q Z SL))
            ∗ owns (c : Thread nD τ) arg7 fullShare (outBlock X (gHi Q Z SH))) -∗ K ⟨⟩)
        -∗ wp frame (wpE (defs₀ (F := F)) 𝒱₀ c none) E
          (cc0__body (F := F) i arg1 harg1 arg2 harg2 arg3 harg3 arg4 harg4 arg5 harg5 arg6 harg6 arg7 harg7) K) := by
  rw [body_eq]
  iintro ⟨H, H6, H7⟩ Hk
  iapply (pairs_rule c E arg1 arg2 arg3 arg4 arg5 X Q Z SL SH _ pairs acc₀ acc₀) $$ H; iintro H
  iapply (last_rule c E arg1 arg2 arg3 arg4 arg5 X Q Z SL SH arg6 harg6 arg7 harg7 _ _ Y6 Y7) $$ [H H6 H7]
  · isplitl [H]; · iexact H
    isplitl [H6]; · iexact H6
    iexact H7
  iintro H
  iapply Hk
  iexact H

end Rules

end Cert.KernelIdeal.Hand

end
-- ==== Proof.Obligation.lean ====
/-
  THE PIPELINE'S PROOF DATA AND THE BODY'S OBLIGATION. At point `t` the body finds the activations whole in their buffer, and in the
  buffers of codes, zero points and scales the point's blocks — at the last point, whose blocks overhang the arrays, only on the part
  inside, the rest being words nothing names. The obligation is proved twice from the body's triple: once with the two output buffers
  forgotten (which asks nothing of the arithmetic), and once with them stated on the part inside the array, for output blocks that do
  not depend on those unnamed words.
-/
module

public import proofs.«01_k».proof.Proof.Triple
public import proofs.«01_k».proof.Proof.Gen.KernelIdeal.Frame

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F]

local notation "𝕄" => MT nD τ sig Unit (Elt F) ℕ (UR sig nD τ) ℕ

variable (m : (ℓ : Loc nD τ sig) → Buf (Elt F) ℓ)

/-- The contents of the four clipped inputs' buffers at point `t`: the block on the part inside the array, `d` elsewhere. -/
abbrev fill1 (c : Dev nD) (t : Fin cfg0.N) (d : S256x9856.Idx → Elt F .i8) : S256x9856.Idx → Elt F .i8 :=
  win0_1.fill (grid0.coords t) d (iblk m c 1 t)
abbrev fill2 (c : Dev nD) (t : Fin cfg0.N) (d : S77x256.Idx → Elt F .i8) : S77x256.Idx → Elt F .i8 :=
  win0_2.fill (grid0.coords t) d (iblk m c 2 t)
abbrev fill3 (c : Dev nD) (t : Fin cfg0.N) (d : S77x256.Idx → Elt F .bf16) : S77x256.Idx → Elt F .bf16 :=
  win0_3.fill (grid0.coords t) d (iblk m c 3 t)
abbrev fill4 (c : Dev nD) (t : Fin cfg0.N) (d : S77x256.Idx → Elt F .bf16) : S77x256.Idx → Elt F .bf16 :=
  win0_4.fill (grid0.coords t) d (iblk m c 4 t)
/-- The activations' buffer: their whole array, at every point. -/
abbrev acts (c : Dev nD) (t : Fin cfg0.N) : S32x9856.Idx → Elt F .bf16 := iblk m c 0 t

/-- What the output buffers hold after the body at each point, on the part inside the array. -/
abbrev OutBlocks (F : FTy → Type) : Type := Dev nD → Fin cfg0.N → S32x256.Idx → Elt F .bf16

/-- The proof data: the arrays as the region finds them; after the body the inputs at their blocks (the filler past the array's end is
    a word nothing reads) and the outputs at `L` and `H`; the class's invariant; full shares; nothing owed. -/
def dats (L H : OutBlocks F) (_ : Fin 1) (c : Dev nD) : Dat τ (Elt F) Unit ℕ (UR sig nD τ) ℕ cfg0 c where
  A w := V m c (Pipeline.arrRef spec0 w)
  after w t := match w with
    | ⟨0, _⟩ => acts m c t
    | ⟨1, _⟩ => fill1 m c t (fun _ => (0#8 : BitVec 8))
    | ⟨2, _⟩ => fill2 m c t (fun _ => (0#8 : BitVec 8))
    | ⟨3, _⟩ => fill3 m c t (fun _ => Scalar.ofBits .bf16 0#16)
    | ⟨4, _⟩ => fill4 m c t (fun _ => Scalar.ofBits .bf16 0#16)
    | ⟨5, _⟩ => L c t
    | ⟨6, _⟩ => H c t
  Φ _ := Pipeline.ΦA spec0 c
  q _ := fullShare
  owed _ := 0

variable (L H : OutBlocks F)

/-! ## What the body finds -/

theorem before_0 (c : Dev nD) (t : Fin cfg0.N) (d) : (dats m L H 0 c).before (0 : Fin 7) t d = acts m c t :=
  before0_0_of m (dats m L H 0 c) rfl (fun _ => rfl) t d
theorem before_1 (c : Dev nD) (t : Fin cfg0.N) (d) : (dats m L H 0 c).before (1 : Fin 7) t d = fill1 m c t d := by
  unfold Dat.before; rw [if_pos (fetch0_1 t)]; rfl
theorem before_2 (c : Dev nD) (t : Fin cfg0.N) (d) : (dats m L H 0 c).before (2 : Fin 7) t d = fill2 m c t d := by
  unfold Dat.before; rw [if_pos (fetch0_2 t)]; rfl
theorem before_3 (c : Dev nD) (t : Fin cfg0.N) (d) : (dats m L H 0 c).before (3 : Fin 7) t d = fill3 m c t d := by
  unfold Dat.before; rw [if_pos (fetch0_3 t)]; rfl
theorem before_4 (c : Dev nD) (t : Fin cfg0.N) (d) : (dats m L H 0 c).before (4 : Fin 7) t d = fill4 m c t d := by
  unfold Dat.before; rw [if_pos (fetch0_4 t)]; rfl
theorem before_5 (c : Dev nD) (t : Fin cfg0.N) (d) : (dats m L H 0 c).before (5 : Fin 7) t d = d :=
  (dats m L H 0 c).before_out_reset 5 rfl t (by by_cases h : t.val = 0; exact .inl h; exact .inr ⟨h, flush0_5 _⟩) d
theorem before_6 (c : Dev nD) (t : Fin cfg0.N) (d) : (dats m L H 0 c).before (6 : Fin 7) t d = d :=
  (dats m L H 0 c).before_out_reset 6 rfl t (by by_cases h : t.val = 0; exact .inl h; exact .inr ⟨h, flush0_6 _⟩) d

/-! ## The obligation, the outputs forgotten -/

/-- Which windows are forgotten: the two outputs. -/
def fgt : Fin 7 → Bool := ![false, false, false, false, false, true, true]

/-- The body, at any point, leaves the inputs' buffers as it found them and the outputs' at something. -/
theorem obligation_forget (c : Dev nD) : BodyObligationLoose (dats m L H 0 c) (defs₀ (F := F)) 𝒱₀ () Set.univ fgt := fun t => by
  rw [bigSep_W0, bigSep_W0]
  simp only [fgt, Matrix.cons_val]
  rw [show (dats m L H 0 c).Φ t.succ = (dats m L H 0 c).Φ t.castSucc from rfl,
    show (dats m L H 0 c).owesAt () t.succ = (dats m L H 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_0 m L H c t d0, before_1 m L H c t d1, before_2 m L H c t d2, before_3 m L H c t d3, before_4 m L H c t d4]
  iapply (body_rule (F := F) c Set.univ (st0_0 t) (st0_1 t) (st0_2 t) (st0_3 t) (st0_4 t) (acts m c t) (fill1 m c t d1) (fill2 m c t d2)
    (fill3 m c t d3) (fill4 m c t d4) (grid0.coords t) (hstage0_0 ((cfg0.slots t 0).cast nbuf0_0)) (hstage0_1 ((cfg0.slots t 1).cast nbuf0_1))
    (hstage0_2 ((cfg0.slots t 2).cast nbuf0_2)) (hstage0_3 ((cfg0.slots t 3).cast nbuf0_3)) (hstage0_4 ((cfg0.slots t 4).cast nbuf0_4))
    (st0_5 t) (hstage0_5 ((cfg0.slots t 5).cast nbuf0_5)) (st0_6 t) (hstage0_6 ((cfg0.slots t 6).cast nbuf0_6)) d5 d6) $$ [H0 H1 H2 H3 H4 H5 H6]
  · unfold held
    isplitl [H0 H1 H2 H3 H4]
    · isplitl [H0]; · iexact H0
      isplitl [H1]; · iexact H1
      isplitl [H2]; · iexact H2
      isplitl [H3]; · iexact H3
      iexact H4
    isplitl [H5]; · iexact H5
    iexact H6
  unfold held
  iintro ⟨⟨H0, H1, H2, H3, H4⟩, H5, H6⟩
  isplitl [HΦ]; · iexact HΦ
  isplitl [Ho]; · iexact Ho
  have h1 : win0_1.cut (grid0.coords t) (fill1 m c t (fun _ => (0#8 : BitVec 8))) = iblk m c 1 t := win0_1.cut_fill _ _ _
  have h2 : win0_2.cut (grid0.coords t) (fill2 m c t (fun _ => (0#8 : BitVec 8))) = iblk m c 2 t := win0_2.cut_fill _ _ _
  have h3 : win0_3.cut (grid0.coords t) (fill3 m c t (fun _ => Scalar.ofBits .bf16 0#16)) = iblk m c 3 t := win0_3.cut_fill _ _ _
  have h4 : win0_4.cut (grid0.coords t) (fill4 m c t (fun _ => Scalar.ofBits .bf16 0#16)) = iblk m c 4 t := win0_4.cut_fill _ _ _
  isplitl [H0]; · iexact H0
  isplitl [H1]
  · iexists d1
    change _ ⊢ owns (c : Thread nD τ) (st0_1 t) fullShare (win0_1.fill (grid0.coords t) d1 (win0_1.cut (grid0.coords t) (fill1 m c t (fun _ => (0#8 : BitVec 8)))))
    rw [h1]; try iexact H1
  isplitl [H2]
  · iexists d2
    change _ ⊢ owns (c : Thread nD τ) (st0_2 t) fullShare (win0_2.fill (grid0.coords t) d2 (win0_2.cut (grid0.coords t) (fill2 m c t (fun _ => (0#8 : BitVec 8)))))
    rw [h2]; try iexact H2
  isplitl [H3]
  · iexists d3
    change _ ⊢ owns (c : Thread nD τ) (st0_3 t) fullShare (win0_3.fill (grid0.coords t) d3 (win0_3.cut (grid0.coords t) (fill3 m c t (fun _ => Scalar.ofBits .bf16 0#16))))
    rw [h3]; try iexact H3
  isplitl [H4]
  · iexists d4
    change _ ⊢ owns (c : Thread nD τ) (st0_4 t) fullShare (win0_4.fill (grid0.coords t) d4 (win0_4.cut (grid0.coords t) (fill4 m c t (fun _ => Scalar.ofBits .bf16 0#16))))
    rw [h4]; try iexact H4
  isplitl [H5]
  · iexists _; iexact H5
  iexists _; iexact H6

/-! ## The obligation, the outputs stated -/

/-- The body, at any point, leaves the inputs' buffers as it found them and the outputs' at `L` and `H` on the part inside the array,
    when what it computes there is `L` and `H` whatever the inputs' buffers hold past the arrays' ends. -/
theorem obligation (c : Dev nD)
    (hL : ∀ t d1 d2 d3, win0_5.cut (grid0.coords t) (outBlock (acts m c t) (gLo (fill1 m c t d1) (fill2 m c t d2) (fill3 m c t d3)))
      = win0_5.cut (grid0.coords t) (L c t))
    (hH : ∀ t d1 d2 d4, win0_6.cut (grid0.coords t) (outBlock (acts m c t) (gHi (fill1 m c t d1) (fill2 m c t d2) (fill4 m c t d4)))
      = win0_6.cut (grid0.coords t) (H c t)) :
    BodyObligationLoose (dats m L H 0 c) (defs₀ (F := F)) 𝒱₀ () Set.univ := fun t => by
  rw [bigSep_W0, bigSep_W0]
  simp only
  rw [show (dats m L H 0 c).Φ t.succ = (dats m L H 0 c).Φ t.castSucc from rfl,
    show (dats m L H 0 c).owesAt () t.succ = (dats m L H 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before_0 m L H c t d0, before_1 m L H c t d1, before_2 m L H c t d2, before_3 m L H c t d3, before_4 m L H c t d4,
    before_5 m L H c t d5, before_6 m L H c t d6]
  iapply (body_rule (F := F) c Set.univ (st0_0 t) (st0_1 t) (st0_2 t) (st0_3 t) (st0_4 t) (acts m c t) (fill1 m c t d1) (fill2 m c t d2)
    (fill3 m c t d3) (fill4 m c t d4) (grid0.coords t) (hstage0_0 ((cfg0.slots t 0).cast nbuf0_0)) (hstage0_1 ((cfg0.slots t 1).cast nbuf0_1))
    (hstage0_2 ((cfg0.slots t 2).cast nbuf0_2)) (hstage0_3 ((cfg0.slots t 3).cast nbuf0_3)) (hstage0_4 ((cfg0.slots t 4).cast nbuf0_4))
    (st0_5 t) (hstage0_5 ((cfg0.slots t 5).cast nbuf0_5)) (st0_6 t) (hstage0_6 ((cfg0.slots t 6).cast nbuf0_6)) d5 d6) $$ [H0 H1 H2 H3 H4 H5 H6]
  · unfold held
    isplitl [H0 H1 H2 H3 H4]
    · isplitl [H0]; · iexact H0
      isplitl [H1]; · iexact H1
      isplitl [H2]; · iexact H2
      isplitl [H3]; · iexact H3
      iexact H4
    isplitl [H5]; · iexact H5
    iexact H6
  unfold held
  iintro ⟨⟨H0, H1, H2, H3, H4⟩, H5, H6⟩
  isplitl [HΦ]; · iexact HΦ
  isplitl [Ho]; · iexact Ho
  have h1 : win0_1.cut (grid0.coords t) (fill1 m c t (fun _ => (0#8 : BitVec 8))) = iblk m c 1 t := win0_1.cut_fill _ _ _
  have h2 : win0_2.cut (grid0.coords t) (fill2 m c t (fun _ => (0#8 : BitVec 8))) = iblk m c 2 t := win0_2.cut_fill _ _ _
  have h3 : win0_3.cut (grid0.coords t) (fill3 m c t (fun _ => Scalar.ofBits .bf16 0#16)) = iblk m c 3 t := win0_3.cut_fill _ _ _
  have h4 : win0_4.cut (grid0.coords t) (fill4 m c t (fun _ => Scalar.ofBits .bf16 0#16)) = iblk m c 4 t := win0_4.cut_fill _ _ _
  isplitl [H0]; · iexact H0
  isplitl [H1]
  · iexists d1
    change _ ⊢ owns (c : Thread nD τ) (st0_1 t) fullShare (win0_1.fill (grid0.coords t) d1 (win0_1.cut (grid0.coords t) (fill1 m c t (fun _ => (0#8 : BitVec 8)))))
    rw [h1]; try iexact H1
  isplitl [H2]
  · iexists d2
    change _ ⊢ owns (c : Thread nD τ) (st0_2 t) fullShare (win0_2.fill (grid0.coords t) d2 (win0_2.cut (grid0.coords t) (fill2 m c t (fun _ => (0#8 : BitVec 8)))))
    rw [h2]; try iexact H2
  isplitl [H3]
  · iexists d3
    change _ ⊢ owns (c : Thread nD τ) (st0_3 t) fullShare (win0_3.fill (grid0.coords t) d3 (win0_3.cut (grid0.coords t) (fill3 m c t (fun _ => Scalar.ofBits .bf16 0#16))))
    rw [h3]; try iexact H3
  isplitl [H4]
  · iexists d4
    change _ ⊢ owns (c : Thread nD τ) (st0_4 t) fullShare (win0_4.fill (grid0.coords t) d4 (win0_4.cut (grid0.coords t) (fill4 m c t (fun _ => Scalar.ofBits .bf16 0#16))))
    rw [h4]; try iexact H4
  isplitl [H5]
  · iexists outBlock (acts m c t) (gLo (fill1 m c t d1) (fill2 m c t d2) (fill3 m c t d3))
    change _ ⊢ owns (c : Thread nD τ) (st0_5 t) fullShare (win0_5.fill (grid0.coords t) (outBlock (acts m c t) (gLo (fill1 m c t d1) (fill2 m c t d2) (fill3 m c t d3)))
      (win0_5.cut (grid0.coords t) (L c t)))
    rw [win0_5.fill_congr_cut _ (hL t d1 d2 d3)]; try iexact H5
  iexists outBlock (acts m c t) (gHi (fill1 m c t d1) (fill2 m c t d2) (fill4 m c t d4))
  change _ ⊢ owns (c : Thread nD τ) (st0_6 t) fullShare (win0_6.fill (grid0.coords t) (outBlock (acts m c t) (gHi (fill1 m c t d1) (fill2 m c t d2) (fill4 m c t d4)))
    (win0_6.cut (grid0.coords t) (H c t)))
  rw [win0_6.fill_congr_cut _ (hH t d1 d2 d4)]; try iexact H6

end Cert.KernelIdeal.Hand

end
-- ==== Proof.Frames.lean ====
/-
  THE KERNEL'S FRAME, at any float values: from any memory every execution of @main terminates, the four argument arrays end as they
  were, and every semaphore counter reads zero. The arithmetic is not looked at: the outputs' buffers, and the arrays made of them, are
  forgotten. The printed program and its ideal reading have one text, so the statement at bits is the statement about the printed program.
-/
module

public import proofs.«01_k».proof.Defs
public import proofs.«01_k».proof.Proof.Obligation
public import proofs.«01_k».proof.Proof.Gen.Kernel

@[expose] public section

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- The buffers the host lines after the kernel write. -/
def tailBufs : Finset (Ref sig .tc) := {main_v8, main_v9, main_v10, main_v11}

/-- Each host line after the kernel writes one of those. -/
theorem tail_writes : ∀ ops ∈ ([hostOps1] : List (List (HloOp τ sig (Elt F)))), ∀ op ∈ ops, ∀ b : Ref sig .tc,
    Proc.devRef .tc b ∈ op.writes → b ∈ tailBufs := by
  intro ops hops op hop b
  simp only [List.mem_cons, List.mem_nil_iff, or_false] at hops
  rcases hops with rfl
  simp only [hostOps1, List.mem_cons, List.mem_nil_iff, or_false] at hop
  rcases hop with rfl | rfl | rfl | rfl
  all_goals
    simp only [StableHlo.nullary_writes, StableHlo.unary_writes, StableHlo.binary_writes, StableHlo.reshape_writes, Finset.mem_singleton]
    intro h
    rw [Proc.devRef_injective .tc h]
    decide

/-- The frame, as the claim states it, at float values `F`. -/
def FrameAt (F : FTy → Type) [FloatOps F] : Prop :=
  ∀ (m : (ℓ : Loc nD τ sig) → Buf (Elt F) ℓ) (g : Dev nD → PrngReg), True →
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0)

/-- Output blocks for a run that forgets them. -/
def anyBlocks : OutBlocks F := fun _ _ _ => Scalar.ofBits .bf16 0#16

/-- THE FRAME, at any float values. -/
theorem frame_at : FrameAt F := fun m g _ =>
  Pipeline.θ_run_frame_around_T_forget cfgs (dats m anyBlocks anyBlocks) 0 launch0 defs₀ 𝒱₀ fgt tailBufs m g main
    (obligation_forget m anyBlocks anyBlocks) (fun c => (dats m anyBlocks anyBlocks 0 c).share_full fun _ => rfl) (fun _ _ => rfl)
    (V0 m) [hostOps1] sfx_sub sfx_fresh sfx_keeps tail_writes (hmain m 𝒱₀) (fun _ _ => rfl) (fun _ _ => rfl) _
    (fun r h => ⟨fun c =>
      ⟨((h.1 c).2 main_arg0 (Finset.mem_sdiff.mpr ⟨Pipeline.mem_restRefs_of main_arg0 (by decide) (by decide), by decide⟩)).trans (V_main_arg0 m c),
       ((h.1 c).2 main_arg1 (Finset.mem_sdiff.mpr ⟨Pipeline.mem_restRefs_of main_arg1 (by decide) (by decide), by decide⟩)).trans (V_main_arg1 m c),
       (Pipeline.RDat.FramePostR.arr_in h.1 c 2 rfl).trans (V_main_arg2 m c),
       ((h.1 c).2 main_arg3 (Finset.mem_sdiff.mpr ⟨Pipeline.mem_restRefs_of main_arg3 (by decide) (by decide), by decide⟩)).trans (V_main_arg3 m c)⟩,
      h.2⟩)

/-- The ideal reading's frame. -/
theorem frame_ideal : Cert.quiescent_KernelIdeal := frame_at (F := Ideal)

/-- The printed program's frame: its text is the ideal reading's, so its claim is the same proposition. -/
theorem frame_bits : Cert.quiescent_Kernel := by
  have h : Cert.quiescent_Kernel = FrameAt Bits := by chain_rfl
  rw [h]
  exact frame_at

end Cert.KernelIdeal.Hand

end
-- ==== Proof.RefFrame.lean ====
/-
  THE REFERENCE'S FRAME: it is a line of host operations, none of which writes an argument, and it declares no semaphore.
-/
module

public import proofs.«01_k».proof.Defs
public import proofs.«01_k».proof.Proof.Gen.ReferenceIdeal.Run
public import Idealize.ShloMosaic.Lib.Quiescent

@[expose] public section

noncomputable section

namespace Cert.ReferenceIdeal.Hand

open Idealize.ShloMosaic Idealize.ShloMosaic.TcCoe Idealize.SL Idealize.SL.Sem

/-- The reference terminates, leaves its arguments, and has no counter that could be other than zero. -/
theorem frame_ref : Cert.quiescent_ReferenceIdeal := by
  intro m ρ _
  exact (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.ReferenceIdeal.Hand

end
-- ==== Proof.Codes.lean ====
/-
  ONE DEQUANTIZED WEIGHT, AND THE LINEAR LAYER. A byte of codes holds two 4-bit codes. `nibLo` and `nibHi` are their values as extended reals, written as the
  reference takes them (the byte widened to 32 bits, then a mask or an arithmetic shift, read as a signed number), and a weight is
  `(code - zero point) * scale`. The kernel takes the nibbles of the codes at 8 bits, read unsigned: the same numbers, by trying the
  256 bytes. `outAt` and `out` are what both programs are shown to compute: a row of activations times a column of weights, the low codes
  giving the even outputs and the high codes the odd ones.
-/
module

public import Idealize.ShloMosaic.PureOps.Ideal.Laws
public import Idealize.ShloMosaic.Lib.ValueIdxCore

@[expose] public section

noncomputable section

namespace Cert.Awq

open Idealize.ShloMosaic Idealize.ShloMosaic.ValueIdx
open scoped BigOperators

/-- The low code of a byte. -/
def nibLo (b : BitVec 8) : EReal := FloatOps.sitofp (F := Ideal) .bf16 (IntOp.andi (b.setWidth 32) 15#32)
/-- The high code of a byte. -/
def nibHi (b : BitVec 8) : EReal := FloatOps.sitofp (F := Ideal) .bf16 (IntOp.shrsi .host (b.setWidth 32) 4#32)

/-- A weight: the code's and the zero point's values subtracted, times the scale. -/
def weight (n : BitVec 8 → EReal) (q z : BitVec 8) (s : EReal) : EReal := (n q - n z) * s

theorem low_toNat : ∀ b : BitVec 8, ((IntOp.andi b 15#8).toNat : ℤ) = (IntOp.andi (b.setWidth 32) 15#32).toInt := by decide +kernel
theorem high_toNat : ∀ b : BitVec 8,
    (((IntOp.shrsi .vector (b.setWidth 32) 4#32).setWidth 8).toNat : ℤ) = (IntOp.shrsi .host (b.setWidth 32) 4#32).toInt := by
  decide +kernel
theorem high_vector : ∀ b : BitVec 8, IntOp.shrsi .vector (b.setWidth 32) 4#32 = IntOp.shrsi .host (b.setWidth 32) 4#32 := by
  decide +kernel

/-- A number read unsigned and a number read signed are the same extended real when they are the same integer. -/
theorem uitofp_eq_sitofp {w w' : ℕ} (a : BitVec w) (b : BitVec w') (h : (a.toNat : ℤ) = b.toInt) :
    FloatOps.uitofp (F := Ideal) .bf16 a = FloatOps.sitofp (F := Ideal) .bf16 b := by
  change ((a.toNat : ℝ) : EReal) = ((b.toInt : ℝ) : EReal)
  rw [← h]; simp

/-- The low code as the kernel takes it. -/
theorem uitofp_low (b : BitVec 8) : FloatOps.uitofp (F := Ideal) .bf16 (IntOp.andi b 15#8) = nibLo b :=
  uitofp_eq_sitofp _ _ (low_toNat b)
/-- The high code as the kernel takes it. -/
theorem uitofp_high (b : BitVec 8) :
    FloatOps.uitofp (F := Ideal) .bf16 ((IntOp.shrsi .vector (b.setWidth 32) 4#32).setWidth 8) = nibHi b :=
  uitofp_eq_sitofp _ _ (high_toNat b)

/-! ## The layer -/

/-- The group of input channel `k`, -/
def grp (k : Fin 9856) : Fin 77 := ⟨k.val / 128, by have := k.isLt; omega⟩
/-- and its place there. -/
def pos (k : Fin 9856) : Fin 128 := ⟨k.val % 128, by omega⟩
/-- Output column `2 j + o`. -/
def col (j : Fin 9408) (o : Fin 2) : Fin 18816 := ⟨2 * j.val + o.val, by have := j.isLt; have := o.isLt; omega⟩

variable (x : (⟨3, ![32, 1, 9856]⟩ : Shape).Idx → EReal) (q : (⟨2, ![9856, 9408]⟩ : Shape).Idx → BitVec 8)
  (z : (⟨2, ![77, 9408]⟩ : Shape).Idx → BitVec 8) (s : (⟨2, ![77, 18816]⟩ : Shape).Idx → EReal)

/-- The output of row `r` from the nibbles `n` of packed column `j`, whose scales are in columns `2 j + o`. -/
def outAt (n : BitVec 8 → EReal) (o : Fin 2) (r : Fin 32) (j : Fin 9408) : EReal :=
  ∑ k : Fin 9856, x (ix3 r (0 : Fin 1) k) * weight n (q (ix2 k j)) (z (ix2 (grp k) j)) (s (ix2 (grp k) (col j o)))

/-- All the outputs: the low nibbles' at the even columns, the high nibbles' at the odd ones. -/
def out (i : (⟨3, ![32, 1, 18816]⟩ : Shape).Idx) : EReal :=
  if (i 2).val % 2 = 0 then outAt x q z s nibLo 0 (i 0) ⟨(i 2).val / 2, by have h : (i 2).val < 18816 := (i 2).isLt; omega⟩
  else outAt x q z s nibHi 1 (i 0) ⟨(i 2).val / 2, by have h : (i 2).val < 18816 := (i 2).isLt; omega⟩

end Cert.Awq

end
-- ==== Proof.Weights.lean ====
/-
  A GROUP'S WEIGHTS, READ AT AN ELEMENT. At the ideal values the kernel's dequantized weights of group `g`, for input channel `k` of the
  group and packed column `j`, are `weight` of the code, the zero point and the scale found in the three buffers at that place.
-/
module

public import proofs.«01_k».proof.Proof.Triple
public import proofs.«01_k».proof.Proof.Codes
public import Idealize.ShloMosaic.Lib.ValueLayout

@[expose] public section

noncomputable section

namespace Cert.KernelIdeal.Hand

open Cert.KernelIdeal Cert.KernelIdeal.Gen Cert.Awq
open Idealize.ShloMosaic Idealize.ShloMosaic.ValueIdx

/-- Input channel `k` of group `g`. -/
def chan (g : Fin 77) (k : Fin 128) : Fin 9856 := ⟨128 * g.val + k.val, by have := g.isLt; have := k.isLt; omega⟩

variable (Q : S256x9856.Idx → BitVec 8) (Z : S77x256.Idx → BitVec 8) (S : S77x256.Idx → EReal)

/-- Group `g`'s piece of the buffer of codes, transposed. -/
theorem codes_apply (g : Fin 77) (k : Fin 128) (j : Fin 256) :
    codes (F := Ideal) (View.ld (Val := Elt Ideal) (e' := .i8) Q (Rect.unit (s := S256x9856) ![0, 128 * g.val] S256x128.size (inbQ g))) (ix2 k j)
      = Q (ix2 j (chan g k)) := by
  unfold codes
  rw [shapeCast_self]
  refine (transpose_ix2_apply _ _ k j).trans ?_
  refine congrArg Q (Shape.idx_ext₂ ?_ ?_)
  · simp [Rect.unit]
  · simp [Rect.unit, chan]

/-- Group `g`'s row of a [77, 256] buffer, repeated down the channels of the group. -/
theorem row_apply {α : Type} (v : S1x256.Idx → α) (f : S77x256.Idx → α) (g : Fin 77) (k : Fin 128) (j : Fin 256)
    (hv : ∀ y, v y = f ((Rect.unit (s := S77x256) ![g.val, 0] S1x256.size (inbZ g)).idx y)) :
    broadcastTo S128x256 v broadcasts_S1x256_S128x256 (ix2 k j) = f (ix2 g j) := by
  refine (broadcastTo_1b_ab_apply v _ k j).trans ((hv _).trans (congrArg f (Shape.idx_ext₂ ?_ ?_)))
  · simp [Rect.unit]
  · simp [Rect.unit]

/-- THE EVEN OUTPUTS' WEIGHTS: the low codes. -/
theorem gLo_apply (g : Fin 77) (k : Fin 128) (j : Fin 256) :
    gLo (F := Ideal) Q Z S g (ix2 k j) = weight nibLo (Q (ix2 j (chan g k))) (Z (ix2 g j)) (S (ix2 g j)) := by
  unfold gLo wLo
  change (FloatOps.uitofp (F := Ideal) .bf16 (IntOp.andi (codes _ (ix2 k j)) 15#8) - broadcastTo S128x256 (zLo (F := Ideal) _) _ (ix2 k j))
    * broadcastTo S128x256 _ _ (ix2 k j) = _
  rw [codes_apply, uitofp_low, shapeCast_self]
  exact congrArg₂ (· * ·) (congrArg (nibLo (Q (ix2 j (chan g k))) - ·) (row_apply _ (fun y => nibLo (Z y)) g k j fun _ => rfl))
    (row_apply _ S g k j fun _ => rfl)

/-- THE ODD OUTPUTS' WEIGHTS: the high codes. -/
theorem gHi_apply (g : Fin 77) (k : Fin 128) (j : Fin 256) :
    gHi (F := Ideal) Q Z S g (ix2 k j) = weight nibHi (Q (ix2 j (chan g k))) (Z (ix2 g j)) (S (ix2 g j)) := by
  unfold gHi wHi
  change (FloatOps.uitofp (F := Ideal) .bf16 ((IntOp.shrsi .vector ((codes _ (ix2 k j)).setWidth 32) 4#32).setWidth 8)
      - broadcastTo S128x256 (zHi (F := Ideal) _) _ (ix2 k j)) * broadcastTo S128x256 _ _ (ix2 k j) = _
  rw [codes_apply, uitofp_high, shapeCast_self]
  exact congrArg₂ (· * ·) (congrArg (nibHi (Q (ix2 j (chan g k))) - ·)
    (row_apply _ (fun y => nibHi (Z y)) g k j fun y => congrArg (FloatOps.sitofp (F := Ideal) .bf16) (high_vector _)))
    (row_apply _ S g k j fun _ => rfl)

end Cert.KernelIdeal.Hand

end
-- ==== Proof.Product.lean ====
/-
  THE BODY'S BLOCK OF THE PRODUCT. At the ideal values an output buffer after the body holds, at row `r` and column `j`, the sum over all
  9856 input channels of the activation times the weight: the 38 pairs of groups contribute 256 channels each, in order, and the last
  group the remaining 128. Only additions of extended reals are regrouped, so nothing is asked of the values.
-/
module

public import proofs.«01_k».proof.Proof.Weights
public import Idealize.ShloMosaic.Lib.MatmulPlain

@[expose] public section

noncomputable section

namespace Cert.KernelIdeal.Hand

open Cert.KernelIdeal Cert.KernelIdeal.Gen Cert.Awq
open Idealize.ShloMosaic Idealize.ShloMosaic.ValueIdx
open scoped BigOperators

variable (X : S32x9856.Idx → EReal) (W : Fin 77 → S128x256.Idx → EReal)

/-- Channel `k`'s term of the product at row `r`, column `j`. -/
def term (r : Fin 32) (j : Fin 256) (k : Fin 9856) : EReal := X (ix2 r k) * W (grp k) (ix2 (pos k) j)
/-- The same over all natural numbers, zero past the channels. -/
def termN (r : Fin 32) (j : Fin 256) (k : ℕ) : EReal := if h : k < 9856 then term X W r j ⟨k, h⟩ else 0

/-- The activations' piece of pair `p`. -/
theorem ldX_pair (p : Fin 38) (r : Fin 32) (k : Fin 256) (h : 256 * p.val + k.val < 9856) :
    View.ld (Val := Elt Ideal) (e' := .bf16) X (Rect.unit (s := S32x9856) ![0, 256 * p.val] S32x256.size (inbX p)) (ix2 r k)
      = X (ix2 r ⟨256 * p.val + k.val, h⟩) := by
  refine congrArg X (Shape.idx_ext₂ ?_ ?_) <;> simp [Rect.unit]

/-- The activations' piece of the last group. -/
theorem ldX_last (r : Fin 32) (k : Fin 128) (h : 9728 + k.val < 9856) :
    View.ld (Val := Elt Ideal) (e' := .bf16) X (Rect.unit (s := S32x9856) ![0, 9728] S32x128.size inb_S32x9856_S32x128_0_9728) (ix2 r k)
      = X (ix2 r ⟨9728 + k.val, h⟩) := by
  refine congrArg X (Shape.idx_ext₂ ?_ ?_) <;> simp [Rect.unit]

/-- A pair's two groups of weights, one above the other: row `k` is row `k % 128` of group `2 p + k / 128`. -/
theorem stacked_apply (p : Fin 38) (k : Fin 256) (j : Fin 256) (h : 256 * p.val + k.val < 9856) :
    concatenate S256x256 0 [⟨S128x256, W (even p)⟩, ⟨S128x256, W (odd p)⟩] concatenates_S128x256_S128x256_S256x256_d0 (ix2 k j)
      = W (grp ⟨256 * p.val + k.val, h⟩) (ix2 (pos ⟨256 * p.val + k.val, h⟩) j) := by
  by_cases hk : k.val < 128
  · have e : even p = grp ⟨256 * p.val + k.val, h⟩ := Fin.ext (by simp [even, grp]; omega)
    rw [← e]
    refine concatenate_pair_apply_left (t := S256x256) (s₁ := S128x256) (s₂ := S128x256) 0 _ _ _ (ix2 k j) rfl _ fun b => ?_
    fin_cases b
    · show (256 * p.val + k.val) % 128 = k.val; omega
    · rfl
  · have e : odd p = grp ⟨256 * p.val + k.val, h⟩ := Fin.ext (by simp [odd, grp]; have := k.isLt; omega)
    rw [← e]
    refine concatenate_pair_apply_right (t := S256x256) (s₁ := S128x256) (s₂ := S128x256) 0 _ _ _ (ix2 k j) rfl rfl _ (fun b hb => ?_) ?_
    · fin_cases b
      · exact absurd rfl hb
      · rfl
    · have := k.isLt
      show (256 * p.val + k.val) % 128 + 128 = k.val; omega

/-- ONE PAIR adds its 256 channels' terms. -/
theorem pairStep_apply (acc : S32x256.Idx → EReal) (p : Fin 38) (r : Fin 32) (j : Fin 256) :
    pairStep (F := Ideal) X W acc p (ix2 r j) = acc (ix2 r j) + ∑ k ∈ Finset.range 256, termN X W r j (256 * p.val + k) := by
  unfold pairStep addPair
  rw [shapeCast_self]
  refine congrArg (acc (ix2 r j) + ·) ?_
  refine (Ideal.matmul_plain_apply (M := 32) (K := 256) (N := 256) none _ _ _ r j).trans ?_
  change Ideal.ofBits .f32 0x00000000#32 + _ = _
  rw [Ideal.ofBits_zero_f32, zero_add, ← Fin.sum_univ_eq_sum_range (fun k => termN X W r j (256 * p.val + k)) 256]
  refine Finset.sum_congr rfl fun k _ => ?_
  have h : 256 * p.val + k.val < 9856 := by have := p.isLt; have := k.isLt; omega
  rw [termN, dif_pos h, term, ldX_pair X p r k h, stacked_apply W p k j h]

/-- THE LAST GROUP adds its 128 channels' terms. -/
theorem lastStep_apply (acc : S32x256.Idx → EReal) (r : Fin 32) (j : Fin 256) :
    lastStep (F := Ideal) X W acc (ix2 r j) = acc (ix2 r j) + ∑ k ∈ Finset.range 128, termN X W r j (9728 + k) := by
  unfold lastStep addLast
  rw [shapeCast_self]
  refine congrArg (acc (ix2 r j) + ·) ?_
  refine (Ideal.matmul_plain_apply (M := 32) (K := 128) (N := 256) none _ _ _ r j).trans ?_
  change Ideal.ofBits .f32 0x00000000#32 + _ = _
  rw [Ideal.ofBits_zero_f32, zero_add, ← Fin.sum_univ_eq_sum_range (fun k => termN X W r j (9728 + k)) 128]
  refine Finset.sum_congr rfl fun k _ => ?_
  have h : 9728 + k.val < 9856 := by have := k.isLt; omega
  have e : grp ⟨9728 + k.val, h⟩ = 76 := Fin.ext (by simp [grp]; omega)
  have e' : pos ⟨9728 + k.val, h⟩ = k := Fin.ext (by simp [pos]; omega)
  rw [termN, dif_pos h, term, ldX_last X r k h, e, e']

/-- The pairs of a list add their terms in order. -/
theorem foldl_apply (r : Fin 32) (j : Fin 256) : ∀ (ps : List (Fin 38)) (acc : S32x256.Idx → EReal),
    ps.foldl (pairStep (F := Ideal) X W) acc (ix2 r j)
      = acc (ix2 r j) + (ps.map fun p => ∑ k ∈ Finset.range 256, termN X W r j (256 * p.val + k)).sum
  | [], acc => by simp
  | p :: ps, acc => by
    rw [List.foldl_cons, foldl_apply r j ps, pairStep_apply, List.map_cons, List.sum_cons, add_assoc]

/-- The pairs in the order of the body are the 38 pairs. -/
theorem pairs_eq : pairs = List.finRange 38 := by decide

/-- A sum over `n` runs of 256 is the sum over all of them. -/
theorem sum_runs (f : ℕ → EReal) : ∀ n : ℕ, ∑ p ∈ Finset.range n, ∑ k ∈ Finset.range 256, f (256 * p + k) = ∑ k ∈ Finset.range (256 * n), f k
  | 0 => by simp
  | n + 1 => by rw [Finset.sum_range_succ, sum_runs f n, Nat.mul_succ, Finset.sum_range_add]

/-- WHAT AN OUTPUT BUFFER HOLDS: the whole product at its row and column. -/
theorem outBlock_apply (r : Fin 32) (j : Fin 256) :
    outBlock (F := Ideal) X W (ix2 r j) = ∑ k : Fin 9856, X (ix2 r k) * W (grp k) (ix2 (pos k) j) := by
  change lastStep (F := Ideal) X W (pairs.foldl (pairStep X W) acc₀) (ix2 r j) = _
  rw [lastStep_apply, foldl_apply, pairs_eq]
  change (Ideal.ofBits .f32 0x00000000#32 + _) + _ = _
  rw [Ideal.ofBits_zero_f32, zero_add]
  have e : ((List.finRange 38).map fun p => ∑ k ∈ Finset.range 256, termN X W r j (256 * p.val + k)).sum
      = ∑ k ∈ Finset.range 9728, termN X W r j k := by
    rw [← sum_runs (termN X W r j) 38, ← Fin.sum_univ_eq_sum_range (fun p => ∑ k ∈ Finset.range 256, termN X W r j (256 * p + k)) 38]
    exact (Fin.sum_univ_def _).symm
  rw [e, ← Finset.sum_range_add (termN X W r j) 9728 128, ← Fin.sum_univ_eq_sum_range (termN X W r j) 9856]
  exact Finset.sum_congr rfl fun k _ => by rw [termN, dif_pos k.isLt]; rfl

end Cert.KernelIdeal.Hand

end
-- ==== Proof.Blocks.lean ====
/-
  THE BLOCKS OF A POINT, READ AT AN ELEMENT. Point `t` works on columns `256 t … 256 t + 255` of the 9408 packed columns; at the last point
  only the first 192 of them are inside the arrays. Inside, the buffer of codes holds the transposed codes, the buffers of zero points
  and scales their columns; the activations are held whole. Which array elements the region's arrays hold, in terms of the arguments, is
  read off the host lines before it.
-/
module

public import proofs.«01_k».proof.Proof.Obligation
public import Idealize.ShloMosaic.Lib.ValueLayout
public import Idealize.ShloMosaic.Lib.StableHlo.Run

@[expose] public section

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

variable {F : FTy → Type} [FloatOps F]
variable (m : (ℓ : Loc nD τ sig) → Buf (Elt F) ℓ)

/-! ## The schedule: where a point's blocks begin and how much of them is inside -/

theorem at_0 : ∀ t : Fin grid0.N, win0_0.index t 0 = 0 ∧ win0_0.index t 1 = 0 := by decide +kernel
theorem at_1 : ∀ t : Fin grid0.N, win0_1.index t 0 = t.val ∧ win0_1.index t 1 = 0
    ∧ win0_1.xsize (grid0.coords t) 0 = min 256 (9408 - 256 * t.val) ∧ win0_1.xsize (grid0.coords t) 1 = 9856 := by decide +kernel
theorem at_2 : ∀ t : Fin grid0.N, win0_2.index t 0 = 0 ∧ win0_2.index t 1 = t.val
    ∧ win0_2.xsize (grid0.coords t) 0 = 77 ∧ win0_2.xsize (grid0.coords t) 1 = min 256 (9408 - 256 * t.val) := by decide +kernel
theorem at_3 : ∀ t : Fin grid0.N, win0_3.index t 0 = 0 ∧ win0_3.index t 1 = t.val
    ∧ win0_3.xsize (grid0.coords t) 0 = 77 ∧ win0_3.xsize (grid0.coords t) 1 = min 256 (9408 - 256 * t.val) := by decide +kernel
theorem at_4 : ∀ t : Fin grid0.N, win0_4.index t 0 = 0 ∧ win0_4.index t 1 = t.val
    ∧ win0_4.xsize (grid0.coords t) 0 = 77 ∧ win0_4.xsize (grid0.coords t) 1 = min 256 (9408 - 256 * t.val) := by decide +kernel
theorem at_5 : ∀ t : Fin grid0.N, win0_5.index t 0 = 0 ∧ win0_5.index t 1 = t.val
    ∧ win0_5.xsize (grid0.coords t) 0 = 32 ∧ win0_5.xsize (grid0.coords t) 1 = min 256 (9408 - 256 * t.val) := by decide +kernel
theorem at_6 : ∀ t : Fin grid0.N, win0_6.index t 0 = 0 ∧ win0_6.index t 1 = t.val
    ∧ win0_6.xsize (grid0.coords t) 0 = 32 ∧ win0_6.xsize (grid0.coords t) 1 = min 256 (9408 - 256 * t.val) := by decide +kernel

/-! ## The buffers on the part inside the arrays -/

/-- The activations are in their buffer whole. -/
theorem acts_apply (c : Dev nD) (t : Fin cfg0.N) (r : Fin 32) (k : Fin 9856) : acts m c t (ix2 r k) = V m c main_v1 (ix2 r k) := by
  refine congrArg (V m c main_v1) (Shape.idx_ext₂ ?_ ?_)
  · change win0_0.index t 0 * 32 + 1 * r.val = r.val; rw [(at_0 t).1]; omega
  · change win0_0.index t 1 * 9856 + 1 * k.val = k.val; rw [(at_0 t).2]; omega

/-- The transposed codes. -/
theorem fill1_apply (c : Dev nD) (t : Fin cfg0.N) (d) (j : Fin 256) (k : Fin 9856) (h : 256 * t.val + j.val < 9408) :
    fill1 m c t d (ix2 j k) = V m c main_v2 (ix2 (⟨256 * t.val + j.val, h⟩ : Fin 9408) k) := by
  obtain ⟨o0, o1, e0, e1⟩ := at_1 t
  have hm : win0_1.moved (grid0.coords t) (ix2 j k) = true := (win0_1.moved_iff _ _).mpr fun a => by
    fin_cases a
    · show j.val < win0_1.xsize (grid0.coords t) 0; rw [e0]; have := j.isLt; omega
    · show k.val < win0_1.xsize (grid0.coords t) 1; rw [e1]; exact k.isLt
  unfold fill1 Pipeline.Window.fill
  rw [dif_pos hm]
  refine congrArg (V m c main_v2) (Shape.idx_ext₂ ?_ ?_)
  · change win0_1.index t 0 * 256 + 1 * j.val = 256 * t.val + j.val; rw [o0]; omega
  · change win0_1.index t 1 * 9856 + 1 * k.val = k.val; rw [o1]; omega

/-- The zero points. -/
theorem fill2_apply (c : Dev nD) (t : Fin cfg0.N) (d) (g : Fin 77) (j : Fin 256) (h : 256 * t.val + j.val < 9408) :
    fill2 m c t d (ix2 g j) = V m c main_arg2 (ix2 g (⟨256 * t.val + j.val, h⟩ : Fin 9408)) := by
  obtain ⟨o0, o1, e0, e1⟩ := at_2 t
  have hm : win0_2.moved (grid0.coords t) (ix2 g j) = true := (win0_2.moved_iff _ _).mpr fun a => by
    fin_cases a
    · show g.val < win0_2.xsize (grid0.coords t) 0; rw [e0]; exact g.isLt
    · show j.val < win0_2.xsize (grid0.coords t) 1; rw [e1]; have := j.isLt; omega
  unfold fill2 Pipeline.Window.fill
  rw [dif_pos hm]
  refine congrArg (V m c main_arg2) (Shape.idx_ext₂ ?_ ?_)
  · change win0_2.index t 0 * 77 + 1 * g.val = g.val; rw [o0]; omega
  · change win0_2.index t 1 * 256 + 1 * j.val = 256 * t.val + j.val; rw [o1]; omega

/-- The even outputs' scales. -/
theorem fill3_apply (c : Dev nD) (t : Fin cfg0.N) (d) (g : Fin 77) (j : Fin 256) (h : 256 * t.val + j.val < 9408) :
    fill3 m c t d (ix2 g j) = V m c main_v4 (ix2 g (⟨256 * t.val + j.val, h⟩ : Fin 9408)) := by
  obtain ⟨o0, o1, e0, e1⟩ := at_3 t
  have hm : win0_3.moved (grid0.coords t) (ix2 g j) = true := (win0_3.moved_iff _ _).mpr fun a => by
    fin_cases a
    · show g.val < win0_3.xsize (grid0.coords t) 0; rw [e0]; exact g.isLt
    · show j.val < win0_3.xsize (grid0.coords t) 1; rw [e1]; have := j.isLt; omega
  unfold fill3 Pipeline.Window.fill
  rw [dif_pos hm]
  refine congrArg (V m c main_v4) (Shape.idx_ext₂ ?_ ?_)
  · change win0_3.index t 0 * 77 + 1 * g.val = g.val; rw [o0]; omega
  · change win0_3.index t 1 * 256 + 1 * j.val = 256 * t.val + j.val; rw [o1]; omega

/-- The odd outputs' scales. -/
theorem fill4_apply (c : Dev nD) (t : Fin cfg0.N) (d) (g : Fin 77) (j : Fin 256) (h : 256 * t.val + j.val < 9408) :
    fill4 m c t d (ix2 g j) = V m c main_v6 (ix2 g (⟨256 * t.val + j.val, h⟩ : Fin 9408)) := by
  obtain ⟨o0, o1, e0, e1⟩ := at_4 t
  have hm : win0_4.moved (grid0.coords t) (ix2 g j) = true := (win0_4.moved_iff _ _).mpr fun a => by
    fin_cases a
    · show g.val < win0_4.xsize (grid0.coords t) 0; rw [e0]; exact g.isLt
    · show j.val < win0_4.xsize (grid0.coords t) 1; rw [e1]; have := j.isLt; omega
  unfold fill4 Pipeline.Window.fill
  rw [dif_pos hm]
  refine congrArg (V m c main_v6) (Shape.idx_ext₂ ?_ ?_)
  · change win0_4.index t 0 * 77 + 1 * g.val = g.val; rw [o0]; omega
  · change win0_4.index t 1 * 256 + 1 * j.val = 256 * t.val + j.val; rw [o1]; omega

/-! ## The region's arrays in terms of the arguments -/

/-- The host lines before the region, each array as the operations that make it. -/
theorem V_main_v1 (c : Dev nD) : V m c main_v1
    = shapeCast S32x9856 (m ((c : Thread nD τ).loc main_arg0) : S32x1x9856.Idx → Elt F .bf16) shapeCasts_S32x1x9856_S32x9856 := by
  show StableHlo.after hostOps0 _ (Proc.devRef .tc main_v1) = _
  after_results
  rfl
theorem V_main_v2 (c : Dev nD) : V m c main_v2
    = transpose S9408x9856 [1, 0] (m ((c : Thread nD τ).loc main_arg1) : S9856x9408.Idx → Elt F .i8) transposes_S9856x9408_S9408x9856_1_0 := by
  show StableHlo.after hostOps0 _ (Proc.devRef .tc main_v2) = _
  after_results
theorem V_main_v4 (c : Dev nD) : V m c main_v4
    = shapeCast S77x9408 (extractStridedSlice S77x9408x1 ![0, 0, 0]
        (shapeCast S77x9408x2 (m ((c : Thread nD τ).loc main_arg3) : S77x18816.Idx → Elt F .bf16) shapeCasts_S77x18816_S77x9408x2)
        slices_S77x9408x2_S77x9408x1_0_0_0) shapeCasts_S77x9408x1_S77x9408 := by
  show StableHlo.after hostOps0 _ (Proc.devRef .tc main_v4) = _
  after_results
  rfl
theorem V_main_v6 (c : Dev nD) : V m c main_v6
    = shapeCast S77x9408 (extractStridedSlice S77x9408x1 ![0, 0, 1]
        (shapeCast S77x9408x2 (m ((c : Thread nD τ).loc main_arg3) : S77x18816.Idx → Elt F .bf16) shapeCasts_S77x18816_S77x9408x2)
        slices_S77x9408x2_S77x9408x1_0_0_1) shapeCasts_S77x9408x1_S77x9408 := by
  show StableHlo.after hostOps0 _ (Proc.devRef .tc main_v6) = _
  after_results
  rfl

/-- Row `r` of the activations. -/
theorem V_main_v1_apply (c : Dev nD) (r : Fin 32) (k : Fin 9856) :
    V m c main_v1 (ix2 r k) = m ((c : Thread nD τ).loc main_arg0) (ix3 r (0 : Fin 1) k) := by
  rw [V_main_v1]
  refine shapeCast_apply _ _ _ (ix3 r (0 : Fin 1) k) ?_
  rw [Shape.rowMajor_val_two, Shape.rowMajor_val_three]
  simp
/-- The codes, transposed. -/
theorem V_main_v2_apply (c : Dev nD) (j : Fin 9408) (k : Fin 9856) :
    V m c main_v2 (ix2 j k) = m ((c : Thread nD τ).loc main_arg1) (ix2 k j) := by
  rw [V_main_v2]
  exact transpose_ix2_apply _ _ j k
/-- The even outputs' scales are the scales at even places, -/
theorem V_main_v4_apply (c : Dev nD) (g : Fin 77) (j : Fin 9408) :
    V m c main_v4 (ix2 g j) = m ((c : Thread nD τ).loc main_arg3) (ix2 g (⟨2 * j.val + 0, by have := j.isLt; omega⟩ : Fin 18816)) := by
  rw [V_main_v4]
  refine (shapeCast_apply _ _ _ (ix3 g j (0 : Fin 1)) ?_).trans
    ((extractStridedSlice_apply _ _ _ _ (ix3 g j (0 : Fin 2)) fun a => ?_).trans (shapeCast_apply _ _ _ _ ?_))
  · rw [Shape.rowMajor_val_two, Shape.rowMajor_val_three]; simp
  · fin_cases a <;> simp
  · refine (Shape.rowMajor_val_two (d := ![77, 18816]) _).trans (Eq.trans ?_ (Shape.rowMajor_val_three (d := ![77, 9408, 2]) _).symm)
    show g.val * 18816 + (2 * j.val + 0) = (g.val * 9408 + j.val) * 2 + 0; omega
/-- and the odd outputs' those at odd places. -/
theorem V_main_v6_apply (c : Dev nD) (g : Fin 77) (j : Fin 9408) :
    V m c main_v6 (ix2 g j) = m ((c : Thread nD τ).loc main_arg3) (ix2 g (⟨2 * j.val + 1, by have := j.isLt; omega⟩ : Fin 18816)) := by
  rw [V_main_v6]
  refine (shapeCast_apply _ _ _ (ix3 g j (0 : Fin 1)) ?_).trans
    ((extractStridedSlice_apply _ _ _ _ (ix3 g j (1 : Fin 2)) fun a => ?_).trans (shapeCast_apply _ _ _ _ ?_))
  · rw [Shape.rowMajor_val_two, Shape.rowMajor_val_three]; simp
  · fin_cases a <;> simp
  · refine (Shape.rowMajor_val_two (d := ![77, 18816]) _).trans (Eq.trans ?_ (Shape.rowMajor_val_three (d := ![77, 9408, 2]) _).symm)
    show g.val * 18816 + (2 * j.val + 1) = (g.val * 9408 + j.val) * 2 + 1; omega

end Cert.KernelIdeal.Hand

end
-- ==== Proof.Result.lean ====
/-
  WHAT THE KERNEL LEAVES IN ITS RESULT. Each point's two output blocks are, inside the array, the layer's even and odd outputs of the point's
  columns, whatever the buffers hold past the arrays' ends: column `j` of a block is computed from column `j` of the codes, the zero points
  and the scales alone. The 37 blocks cover the two output arrays, and the host lines after the region interleave the two.
-/
module

public import proofs.«01_k».proof.Proof.Product
public import proofs.«01_k».proof.Proof.Blocks

@[expose] public section

noncomputable section

namespace Cert.KernelIdeal.Hand

open Cert.KernelIdeal Cert.KernelIdeal.Gen Cert.Awq
open Idealize.ShloMosaic Idealize.ShloMosaic.TcCoe Idealize.ShloMosaic.ValueIdx
open Idealize.SL Idealize.SL.Sem
open scoped BigOperators

variable (m : (ℓ : Loc nD τ sig) → Buf (Elt Ideal) ℓ)

/-- The layer's outputs of nibbles `n` at device `c`, of its arguments. -/
def layer (n : BitVec 8 → EReal) (o : Fin 2) (c : Dev nD) (r : Fin 32) (j : Fin 9408) : EReal :=
  outAt (m ((c : Thread nD τ).loc main_arg0)) (m ((c : Thread nD τ).loc main_arg1)) (m ((c : Thread nD τ).loc main_arg2))
    (m ((c : Thread nD τ).loc main_arg3)) n o r j
/-- The same as an array. -/
def layerArr (n : BitVec 8 → EReal) (o : Fin 2) (c : Dev nD) : S32x9408.Idx → EReal := fun i => layer m n o c (i 0) (i 1)
/-- Its block at point `t`, zero past the array's end. -/
def layerBlock (n : BitVec 8 → EReal) (o : Fin 2) : OutBlocks Ideal := fun c t y =>
  if h : 256 * t.val + (y 1).val < 9408 then layer m n o c (y 0) ⟨256 * t.val + (y 1).val, h⟩ else 0

theorem layerBlock_apply (n : BitVec 8 → EReal) (o : Fin 2) (c : Dev nD) (t : Fin cfg0.N) (y : S32x256.Idx)
    (h : 256 * t.val + (y 1).val < 9408) : layerBlock m n o c t y = layer m n o c (y 0) ⟨256 * t.val + (y 1).val, h⟩ := by
  unfold layerBlock
  rw [dif_pos h]

/-- Channel `k` is place `pos k` of group `grp k`. -/
theorem chan_grp_pos (k : Fin 9856) : chan (grp k) (pos k) = k := Fin.ext (by show 128 * (k.val / 128) + k.val % 128 = k.val; omega)

/-- THE EVEN OUTPUTS of a point, inside the array. -/
theorem lo_apply (c : Dev nD) (t : Fin cfg0.N) (d1 d2 d3) (r : Fin 32) (j : Fin 256) (h : 256 * t.val + j.val < 9408) :
    outBlock (F := Ideal) (acts m c t) (gLo (fill1 m c t d1) (fill2 m c t d2) (fill3 m c t d3)) (ix2 r j)
      = layer m nibLo 0 c r ⟨256 * t.val + j.val, h⟩ := by
  refine (outBlock_apply _ _ r j).trans ?_
  unfold layer outAt
  refine Finset.sum_congr rfl fun k _ => ?_
  rw [gLo_apply, chan_grp_pos, acts_apply, V_main_v1_apply, fill1_apply m c t d1 j k h, V_main_v2_apply,
    fill2_apply m c t d2 (grp k) j h, V_main_arg2, fill3_apply m c t d3 (grp k) j h, V_main_v4_apply]
  rfl

/-- THE ODD OUTPUTS of a point, inside the array. -/
theorem hi_apply (c : Dev nD) (t : Fin cfg0.N) (d1 d2 d4) (r : Fin 32) (j : Fin 256) (h : 256 * t.val + j.val < 9408) :
    outBlock (F := Ideal) (acts m c t) (gHi (fill1 m c t d1) (fill2 m c t d2) (fill4 m c t d4)) (ix2 r j)
      = layer m nibHi 1 c r ⟨256 * t.val + j.val, h⟩ := by
  refine (outBlock_apply _ _ r j).trans ?_
  unfold layer outAt
  refine Finset.sum_congr rfl fun k _ => ?_
  rw [gHi_apply, chan_grp_pos, acts_apply, V_main_v1_apply, fill1_apply m c t d1 j k h, V_main_v2_apply,
    fill2_apply m c t d2 (grp k) j h, V_main_arg2, fill4_apply m c t d4 (grp k) j h, V_main_v6_apply]
  rfl

/-- The moved part of an output block is inside the array. -/
theorem inside_5 (t : Fin cfg0.N) (y : (win0_5.xblock (grid0.coords t)).Idx) : 256 * t.val + (y 1).val < 9408 := by
  have h : (y 1).val < win0_5.xsize (grid0.coords t) 1 := (y 1).isLt
  rw [(at_5 t).2.2.2] at h; omega
theorem inside_6 (t : Fin cfg0.N) (y : (win0_6.xblock (grid0.coords t)).Idx) : 256 * t.val + (y 1).val < 9408 := by
  have h : (y 1).val < win0_6.xsize (grid0.coords t) 1 := (y 1).isLt
  rw [(at_6 t).2.2.2] at h; omega

/-- What the body leaves in the first output buffer is the layer's block on the part inside the array, -/
theorem cut_lo (c : Dev nD) (t d1 d2 d3) :
    win0_5.cut (grid0.coords t) (outBlock (F := Ideal) (acts m c t) (gLo (fill1 m c t d1) (fill2 m c t d2) (fill3 m c t d3)))
      = win0_5.cut (grid0.coords t) (layerBlock m nibLo 0 c t) := funext fun y => by
  have h := inside_5 t y
  have e := eq_ix2 (n0 := 32) (n1 := 256) (win0_5.xinj (grid0.coords t) y)
  refine (congrArg _ e).trans (Eq.trans ?_ (layerBlock_apply m nibLo 0 c t (win0_5.xinj (grid0.coords t) y) h).symm)
  exact lo_apply m c t d1 d2 d3 _ _ h
/-- and in the second. -/
theorem cut_hi (c : Dev nD) (t d1 d2 d4) :
    win0_6.cut (grid0.coords t) (outBlock (F := Ideal) (acts m c t) (gHi (fill1 m c t d1) (fill2 m c t d2) (fill4 m c t d4)))
      = win0_6.cut (grid0.coords t) (layerBlock m nibHi 1 c t) := funext fun y => by
  have h := inside_6 t y
  have e := eq_ix2 (n0 := 32) (n1 := 256) (win0_6.xinj (grid0.coords t) y)
  refine (congrArg _ e).trans (Eq.trans ?_ (layerBlock_apply m nibHi 1 c t (win0_6.xinj (grid0.coords t) y) h).symm)
  exact hi_apply m c t d1 d2 d4 _ _ h

/-! ## The two arrays at the end -/

/-- The run's proof data: the outputs at the layer's blocks. -/
abbrev runDats := dats m (layerBlock m nibLo 0) (layerBlock m nibHi 1)

/-- THE FIRST OUTPUT ARRAY ends holding the layer's even outputs, -/
theorem arr_lo (c : Dev nD) : (runDats m 0 c).arrAt (5 : Fin 7) cfg0.N = layerArr m nibLo 0 c := by
  refine (runDats m 0 c).arrAt_eq_of_cover (5 : Fin 7) (layerArr m nibLo 0 c) (fun t _ => ?_) fun i => ?_
  · obtain ⟨o0, o1, -, -⟩ := at_5 t
    change win0_5.cut (grid0.coords t) (layerBlock m nibLo 0 c t) = (win0_5.blk t).view.read (Elt Ideal) (layerArr m nibLo 0 c)
    funext y
    have h := inside_5 t y
    have e : ∀ G : S32x9408.Idx → EReal, (win0_5.blk t).view.read (Elt Ideal) G y = G ((win0_5.rect t).emb y) := fun _ => rfl
    rw [e]
    unfold layerArr
    refine (layerBlock_apply m nibLo 0 c t (win0_5.xinj (grid0.coords t) y) h).trans (congrArg₂ (layer m nibLo 0 c) (Fin.ext ?_) (Fin.ext ?_))
    · change (y 0).val = win0_5.index t 0 * 32 + 1 * (y 0).val; rw [o0]; omega
    · change 256 * t.val + (y 1).val = win0_5.index t 1 * 256 + 1 * (y 1).val; rw [o1]; omega
  · have h1 : (i 1).val < 9408 := (i 1).isLt
    have h0 : (i 0).val < 32 := (i 0).isLt
    let t : Fin cfg0.N := ⟨(i 1).val / 256, by rw [show cfg0.N = 37 from N_0]; omega⟩
    refine ⟨t, flush0_5 t, ?_⟩
    obtain ⟨o0, o1, e0, e1⟩ := at_5 t
    show i ∈ ((View.whole main_v7_0).slice (win0_5.rect t)).set
    rw [View.set_slice_whole, Rect.mem_set_unit]
    intro a
    fin_cases a
    · change win0_5.index t 0 * 32 ≤ (i 0).val ∧ (i 0).val < win0_5.index t 0 * 32 + win0_5.xsize (grid0.coords t) 0
      rw [o0, e0]; omega
    · change win0_5.index t 1 * 256 ≤ (i 1).val ∧ (i 1).val < win0_5.index t 1 * 256 + win0_5.xsize (grid0.coords t) 1
      rw [o1, e1]; change (i 1).val / 256 * 256 ≤ _ ∧ _ < (i 1).val / 256 * 256 + min 256 (9408 - 256 * ((i 1).val / 256)); omega

/-- and the second the odd ones. -/
theorem arr_hi (c : Dev nD) : (runDats m 0 c).arrAt (6 : Fin 7) cfg0.N = layerArr m nibHi 1 c := by
  refine (runDats m 0 c).arrAt_eq_of_cover (6 : Fin 7) (layerArr m nibHi 1 c) (fun t _ => ?_) fun i => ?_
  · obtain ⟨o0, o1, -, -⟩ := at_6 t
    change win0_6.cut (grid0.coords t) (layerBlock m nibHi 1 c t) = (win0_6.blk t).view.read (Elt Ideal) (layerArr m nibHi 1 c)
    funext y
    have h := inside_6 t y
    have e : ∀ G : S32x9408.Idx → EReal, (win0_6.blk t).view.read (Elt Ideal) G y = G ((win0_6.rect t).emb y) := fun _ => rfl
    rw [e]
    unfold layerArr
    refine (layerBlock_apply m nibHi 1 c t (win0_6.xinj (grid0.coords t) y) h).trans (congrArg₂ (layer m nibHi 1 c) (Fin.ext ?_) (Fin.ext ?_))
    · change (y 0).val = win0_6.index t 0 * 32 + 1 * (y 0).val; rw [o0]; omega
    · change 256 * t.val + (y 1).val = win0_6.index t 1 * 256 + 1 * (y 1).val; rw [o1]; omega
  · have h1 : (i 1).val < 9408 := (i 1).isLt
    have h0 : (i 0).val < 32 := (i 0).isLt
    let t : Fin cfg0.N := ⟨(i 1).val / 256, by rw [show cfg0.N = 37 from N_0]; omega⟩
    refine ⟨t, flush0_6 t, ?_⟩
    obtain ⟨o0, o1, e0, e1⟩ := at_6 t
    show i ∈ ((View.whole main_v7_1).slice (win0_6.rect t)).set
    rw [View.set_slice_whole, Rect.mem_set_unit]
    intro a
    fin_cases a
    · change win0_6.index t 0 * 32 ≤ (i 0).val ∧ (i 0).val < win0_6.index t 0 * 32 + win0_6.xsize (grid0.coords t) 0
      rw [o0, e0]; omega
    · change win0_6.index t 1 * 256 ≤ (i 1).val ∧ (i 1).val < win0_6.index t 1 * 256 + win0_6.xsize (grid0.coords t) 1
      rw [o1, e1]; change (i 1).val / 256 * 256 ≤ _ ∧ _ < (i 1).val / 256 * 256 + min 256 (9408 - 256 * ((i 1).val / 256)); omega

end Cert.KernelIdeal.Hand

end
-- ==== Proof.KernelRun.lean ====
/-
  THE KERNEL'S RUN. From any memory the program ends with its result holding the layer's outputs of its arguments, and the arguments
  unchanged: the two output arrays, interleaved by the host lines after the region, are `out`.
-/
module

public import proofs.«01_k».proof.Proof.Result

@[expose] public section

noncomputable section

namespace Cert.KernelIdeal.Hand

open Cert.KernelIdeal Cert.KernelIdeal.Gen Cert.Awq
open Idealize.ShloMosaic Idealize.ShloMosaic.TcCoe Idealize.ShloMosaic.ValueIdx
open Idealize.SL Idealize.SL.Sem

/-- Two arrays interleaved along the columns, as the host lines do it: each with a last axis of one, joined there, flattened. -/
def interleave (A B : S32x9408.Idx → EReal) : S32x1x18816.Idx → EReal :=
  shapeCast S32x1x18816 (concatenate S32x9408x2 2 [⟨S32x9408x1, broadcastInDim S32x9408x1 ![0, 1] bcast_S32x9408_S32x9408x1_0_1 A⟩,
    ⟨S32x9408x1, broadcastInDim S32x9408x1 ![0, 1] bcast_S32x9408_S32x9408x1_0_1 B⟩] concatenates_S32x9408x1_S32x9408x1_S32x9408x2_d2)
    shapeCasts_S32x9408x2_S32x1x18816

/-- An array with a last axis of one. -/
theorem unit_apply (A : S32x9408.Idx → EReal) (r : Fin 32) (j : Fin 9408) :
    broadcastInDim S32x9408x1 ![0, 1] bcast_S32x9408_S32x9408x1_0_1 A (ix3 r j (0 : Fin 1)) = A (ix2 r j) :=
  broadcastInDim_apply _ _ A _ (ix2 r j) fun a => by fin_cases a <;> simp [ix3, ix2]

/-- Interleaved: even columns from the first array, odd ones from the second. -/
theorem interleave_apply (A B : S32x9408.Idx → EReal) (i : S32x1x18816.Idx) :
    interleave A B i = if (i 2).val % 2 = 0 then A (ix2 (i 0) ⟨(i 2).val / 2, by have h : (i 2).val < 18816 := (i 2).isLt; omega⟩)
      else B (ix2 (i 0) ⟨(i 2).val / 2, by have h : (i 2).val < 18816 := (i 2).isLt; omega⟩) := by
  have h2 : (i 2).val < 18816 := (i 2).isLt
  have h1 : (i 1).val < 1 := (i 1).isLt
  let r : Fin 32 := i 0
  let j : Fin 9408 := ⟨(i 2).val / 2, by omega⟩
  let o : Fin 2 := ⟨(i 2).val % 2, by omega⟩
  unfold interleave
  refine (shapeCast_apply _ _ i (ix3 r j o) ?_).trans ?_
  · refine (Shape.rowMajor_val_three (d := ![32, 9408, 2]) _).trans (Eq.trans ?_ (Shape.rowMajor_val_three (d := ![32, 1, 18816]) _).symm)
    show ((i 0).val * 9408 + (i 2).val / 2) * 2 + (i 2).val % 2 = ((i 0).val * 1 + (i 1).val) * 18816 + (i 2).val
    omega
  · split
    · rename_i h
      refine (concatenate_pair_apply_left (t := S32x9408x2) (s₁ := S32x9408x1) (s₂ := S32x9408x1) 2 _ _ _ (ix3 r j o) rfl
        (ix3 r j (0 : Fin 1)) fun b => ?_).trans (unit_apply A r j)
      fin_cases b
      · rfl
      · rfl
      · exact h.symm
    · rename_i h
      refine (concatenate_pair_apply_right (t := S32x9408x2) (s₁ := S32x9408x1) (s₂ := S32x9408x1) 2 _ _ _ (ix3 r j o) rfl rfl
        (ix3 r j (0 : Fin 1)) (fun b hb => ?_) ?_).trans (unit_apply B r j)
      · fin_cases b
        · rfl
        · rfl
        · exact absurd rfl hb
      · show 0 + 1 = (i 2).val % 2; omega

variable (m : (ℓ : Loc nD τ sig) → Buf (Elt Ideal) ℓ)

/-- The layer's outputs of the arguments at device `c`. -/
def result (c : Dev nD) : S32x1x18816.Idx → EReal :=
  out (m ((c : Thread nD τ).loc main_arg0)) (m ((c : Thread nD τ).loc main_arg1)) (m ((c : Thread nD τ).loc main_arg2))
    (m ((c : Thread nD τ).loc main_arg3))

/-- The layer's two arrays interleaved are its outputs. -/
theorem interleave_layer (c : Dev nD) : interleave (layerArr m nibLo 0 c) (layerArr m nibHi 1 c) = result m c := by
  funext i
  rw [interleave_apply]
  unfold result out layerArr layer
  rfl

/-- The host lines after the region, applied to what the region leaves. -/
theorem tail_v11 (c : Dev nD) : Pipeline.afterTail₀ cfgs (runDats m) 0 (V0 m) [hostOps1] c main_v11
    = interleave ((runDats m 0 c).arrAt (5 : Fin 7) cfg0.N) ((runDats m 0 c).arrAt (6 : Fin 7) cfg0.N) := by
  have e5 := Pipeline.withArrays_arr spec0 launch0.win.arr_inj c (V0 m c) (fun w => (runDats m 0 c).arrAt w cfg0.N) (5 : Fin 7)
  have e6 := Pipeline.withArrays_arr spec0 launch0.win.arr_inj c (V0 m c) (fun w => (runDats m 0 c).arrAt w cfg0.N) (6 : Fin 7)
  rw [← e5, ← e6]
  unfold Pipeline.afterTail₀
  show StableHlo.after hostOps1 _ (Proc.devRef .tc main_v11) = _
  after_results
  rfl

/-- THE RUN: the result is the layer's, the arguments are unchanged. -/
theorem run (g : Dev nD → PrngReg) :
    θ_run (defs (F := Ideal)) (onTc (τ := τ) (main (F := Ideal))) ⟨m, fun _ => 0, g⟩ (fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_frame_around cfgs (runDats m) 0 launch0 defs₀ 𝒱₀ m g main
    (fun c => obligation m _ _ c (cut_lo m c) (cut_hi m c)) (fun c => (runDats m 0 c).share_full fun _ => rfl) (fun _ _ => rfl)
    (V0 m) [hostOps1] sfx_sub sfx_fresh sfx_keeps (hmain m 𝒱₀) (fun _ _ => rfl) (fun _ _ => rfl) _
    (fun r h c =>
      ⟨((h.1 c).2 main_v11 (Pipeline.mem_restRefs_of main_v11 (by decide) (by decide))).trans
          ((tail_v11 m c).trans (by rw [arr_lo, arr_hi, interleave_layer])),
       ((h.1 c).2 main_arg0 (Pipeline.mem_restRefs_of main_arg0 (by decide) (by decide))).trans (W_main_arg0 m (runDats m) c),
       ((h.1 c).2 main_arg1 (Pipeline.mem_restRefs_of main_arg1 (by decide) (by decide))).trans (W_main_arg1 m (runDats m) c),
       ((h.1 c).1 2).trans (((runDats m 0 c).arrAt_in 2 rfl _).trans (V_main_arg2 m c)),
       ((h.1 c).2 main_arg3 (Pipeline.mem_restRefs_of main_arg3 (by decide) (by decide))).trans (W_main_arg3 m (runDats m) c)⟩)

end Cert.KernelIdeal.Hand

end
-- ==== Proof.RefValue.lean ====
/-
  WHAT THE REFERENCE COMPUTES: its lines, read at one index, are the layer's outputs of its arguments.
-/
module

public import proofs.«01_k».proof.Proof.Codes
public import proofs.«01_k».proof.Proof.Gen.ReferenceIdeal.Read
public import proofs.«01_k».proof.Proof.Gen.ReferenceIdeal.Run

@[expose] public section

noncomputable section

namespace Cert.ReferenceIdeal.Hand

open Cert.ReferenceIdeal Cert.ReferenceIdeal.Gen Cert.ReferenceIdeal.Read Cert.Awq
open Idealize.ShloMosaic Idealize.ShloMosaic.TcCoe Idealize.ShloMosaic.ValueIdx
open Idealize.SL Idealize.SL.Sem
open scoped BigOperators

/-- Each factor of the low weights, where the reference keeps it. -/
theorem codesLo_apply (x1 : S9856x9408.Idx → BitVec 8) (g : Fin 77) (p : Fin 128) (j : Fin 9408) (k : Fin 9856)
    (hk : k.val = g.val * 128 + p.val) : val_main_v10 (F := Ideal) x1 (ix3 g p j) = nibLo (x1 (ix2 k j)) := by
  have e : idx_main_v10 (ix3 g p j) = ix2 k j := Shape.idx_ext₂
    (by have := j.isLt; show ((g.val * 128 + p.val) * 9408 + j.val) / 9408 = k.val; omega)
    (by have := j.isLt; show ((g.val * 128 + p.val) * 9408 + j.val) % 9408 = j.val; omega)
  rw [val_main_v10_apply, e]
  rfl

/-- The zero points, one per group and column. -/
theorem zerosLo_apply (x2 : S77x9408.Idx → BitVec 8) (g : Fin 77) (p : Fin 128) (j : Fin 9408) :
    val_main_v13 (F := Ideal) x2 (ix3 g p j) = nibLo (x2 (ix2 g j)) := by
  have e : idx_main_v12 (idx_main_v13 (ix3 g p j)) = ix2 g j := Shape.idx_ext₂ rfl rfl
  rw [val_main_v13_apply, val_main_v12_apply, e]
  rfl

/-- The scales, one per group and output column. -/
theorem scalesLo_apply (x3 : S77x18816.Idx → EReal) (g : Fin 77) (p : Fin 128) (j : Fin 9408) :
    val_main_v16 (F := Ideal) x3 (ix3 g p j) = x3 (ix2 g (col j 0)) := by
  rw [val_main_v16_apply, val_main_v15_apply, val_main_v8_apply, val_main_v7_apply, val_main_v2_apply]
  refine congrArg x3 (Shape.idx_ext₂ ?_ ?_)
  · have := j.isLt
    have := g.isLt
    show (((g.val * 9408 + j.val) / 9408 * 9408 + (g.val * 9408 + j.val) / 1 % 9408) * 2 + 0) / 18816 = g.val
    omega
  · have := j.isLt
    have := g.isLt
    show (((g.val * 9408 + j.val) / 9408 * 9408 + (g.val * 9408 + j.val) / 1 % 9408) * 2 + 0) % 18816 = 2 * j.val + 0
    omega

/-- The reference's low weights. -/
theorem weightsLo_apply (x1 : S9856x9408.Idx → BitVec 8) (x2 : S77x9408.Idx → BitVec 8) (x3 : S77x18816.Idx → EReal)
    (k : Fin 9856) (j : Fin 9408) : val_main_v18 (F := Ideal) x1 x2 x3 (ix2 k j)
      = weight nibLo (x1 (ix2 k j)) (x2 (ix2 (grp k) j)) (x3 (ix2 (grp k) (col j 0))) := by
  have e : idx_main_v18 (ix2 k j) = ix3 (grp k) (pos k) j := by
    have := j.isLt
    have := k.isLt
    funext a
    refine Fin.ext ?_
    match a with
    | ⟨0, _⟩ => show (k.val * 9408 + j.val) / 1204224 = k.val / 128; omega
    | ⟨1, _⟩ => show (k.val * 9408 + j.val) / 9408 % 128 = k.val % 128; omega
    | ⟨2, _⟩ => show (k.val * 9408 + j.val) % 9408 = j.val; omega
  rw [val_main_v18_apply, e, val_main_v17_apply, val_main_v14_apply,
    codesLo_apply x1 (grp k) (pos k) j k (by show k.val = k.val / 128 * 128 + k.val % 128; omega), zerosLo_apply, scalesLo_apply]
  rfl

/-- The low product. -/
theorem dotLo_apply (x0 : S32x1x9856.Idx → EReal) (x1 : S9856x9408.Idx → BitVec 8) (x2 : S77x9408.Idx → BitVec 8)
    (x3 : S77x18816.Idx → EReal) (r : Fin 32) (u : Fin 1) (j : Fin 9408) :
    val_main_v19 (F := Ideal) x0 x1 x2 x3 (ix3 r u j) = outAt x0 x1 x2 x3 nibLo 0 r j := by
  rw [val_main_v19_apply]
  unfold outAt
  refine Finset.sum_congr rfl fun k _ => ?_
  have hl : lidx_main_v19 (ix3 r u j) k = ix3 r (0 : Fin 1) k := by
    funext a
    refine Fin.ext ?_
    match a with
    | ⟨0, _⟩ => rfl
    | ⟨1, _⟩ => have := u.isLt; show u.val = 0; omega
    | ⟨2, _⟩ => rfl
  have hr : ridx_main_v19 (ix3 r u j) k = ix2 k j := Shape.idx_ext₂ rfl rfl
  rw [hl, hr, weightsLo_apply]

/-- Each factor of the high weights, where the reference keeps it. -/
theorem codesHi_apply (x1 : S9856x9408.Idx → BitVec 8) (g : Fin 77) (p : Fin 128) (j : Fin 9408) (k : Fin 9856)
    (hk : k.val = g.val * 128 + p.val) : val_main_v27 (F := Ideal) x1 (ix3 g p j) = nibHi (x1 (ix2 k j)) := by
  have e : idx_main_v27 (ix3 g p j) = ix2 k j := Shape.idx_ext₂
    (by have := j.isLt; show ((g.val * 128 + p.val) * 9408 + j.val) / 9408 = k.val; omega)
    (by have := j.isLt; show ((g.val * 128 + p.val) * 9408 + j.val) % 9408 = j.val; omega)
  rw [val_main_v27_apply, e]
  rfl

/-- The zero points, one per group and column. -/
theorem zerosHi_apply (x2 : S77x9408.Idx → BitVec 8) (g : Fin 77) (p : Fin 128) (j : Fin 9408) :
    val_main_v30 (F := Ideal) x2 (ix3 g p j) = nibHi (x2 (ix2 g j)) := by
  have e : idx_main_v29 (idx_main_v30 (ix3 g p j)) = ix2 g j := Shape.idx_ext₂ rfl rfl
  rw [val_main_v30_apply, val_main_v29_apply, e]
  rfl

/-- The scales, one per group and output column. -/
theorem scalesHi_apply (x3 : S77x18816.Idx → EReal) (g : Fin 77) (p : Fin 128) (j : Fin 9408) :
    val_main_v33 (F := Ideal) x3 (ix3 g p j) = x3 (ix2 g (col j 1)) := by
  rw [val_main_v33_apply, val_main_v32_apply, val_main_v25_apply, val_main_v24_apply, val_main_v2_apply]
  refine congrArg x3 (Shape.idx_ext₂ ?_ ?_)
  · have := j.isLt
    have := g.isLt
    show (((g.val * 9408 + j.val) / 9408 * 9408 + (g.val * 9408 + j.val) / 1 % 9408) * 2 + (1 + 0)) / 18816 = g.val
    omega
  · have := j.isLt
    have := g.isLt
    show (((g.val * 9408 + j.val) / 9408 * 9408 + (g.val * 9408 + j.val) / 1 % 9408) * 2 + (1 + 0)) % 18816 = 2 * j.val + 1
    omega

/-- The reference's high weights. -/
theorem weightsHi_apply (x1 : S9856x9408.Idx → BitVec 8) (x2 : S77x9408.Idx → BitVec 8) (x3 : S77x18816.Idx → EReal)
    (k : Fin 9856) (j : Fin 9408) : val_main_v35 (F := Ideal) x1 x2 x3 (ix2 k j)
      = weight nibHi (x1 (ix2 k j)) (x2 (ix2 (grp k) j)) (x3 (ix2 (grp k) (col j 1))) := by
  have e : idx_main_v35 (ix2 k j) = ix3 (grp k) (pos k) j := by
    have := j.isLt
    have := k.isLt
    funext a
    refine Fin.ext ?_
    match a with
    | ⟨0, _⟩ => show (k.val * 9408 + j.val) / 1204224 = k.val / 128; omega
    | ⟨1, _⟩ => show (k.val * 9408 + j.val) / 9408 % 128 = k.val % 128; omega
    | ⟨2, _⟩ => show (k.val * 9408 + j.val) % 9408 = j.val; omega
  rw [val_main_v35_apply, e, val_main_v34_apply, val_main_v31_apply,
    codesHi_apply x1 (grp k) (pos k) j k (by show k.val = k.val / 128 * 128 + k.val % 128; omega), zerosHi_apply, scalesHi_apply]
  rfl

/-- The high product. -/
theorem dotHi_apply (x0 : S32x1x9856.Idx → EReal) (x1 : S9856x9408.Idx → BitVec 8) (x2 : S77x9408.Idx → BitVec 8)
    (x3 : S77x18816.Idx → EReal) (r : Fin 32) (u : Fin 1) (j : Fin 9408) :
    val_main_v36 (F := Ideal) x0 x1 x2 x3 (ix3 r u j) = outAt x0 x1 x2 x3 nibHi 1 r j := by
  rw [val_main_v36_apply]
  unfold outAt
  refine Finset.sum_congr rfl fun k _ => ?_
  have hl : lidx_main_v36 (ix3 r u j) k = ix3 r (0 : Fin 1) k := by
    funext a
    refine Fin.ext ?_
    match a with
    | ⟨0, _⟩ => rfl
    | ⟨1, _⟩ => have := u.isLt; show u.val = 0; omega
    | ⟨2, _⟩ => rfl
  have hr : ridx_main_v36 (ix3 r u j) k = ix2 k j := Shape.idx_ext₂ rfl rfl
  rw [hl, hr, weightsHi_apply]

variable (x0 : S32x1x9856.Idx → EReal) (x1 : S9856x9408.Idx → BitVec 8) (x2 : S77x9408.Idx → BitVec 8) (x3 : S77x18816.Idx → EReal)

/-- The joined array's first half is the low product, -/
theorem join_lo (r : Fin 32) (u : Fin 1) (j : Fin 9408) (o : Fin 2) (ho : o.val = 0) :
    val_main_v39 (F := Ideal) x0 x1 x2 x3 (ix4 r u j o) = outAt x0 x1 x2 x3 nibLo 0 r j := by
  unfold val_main_v39
  refine (concatenate_pair_apply_left (t := S32x1x9408x2) (s₁ := S32x1x9408x1) (s₂ := S32x1x9408x1) 3 _ _ _ (ix4 r u j o) rfl
    (ix4 r u j (0 : Fin 1)) fun b => ?_).trans ?_
  · match b with
    | ⟨0, _⟩ => rfl
    | ⟨1, _⟩ => rfl
    | ⟨2, _⟩ => rfl
    | ⟨3, _⟩ => exact ho.symm
  · rw [val_main_v37_apply]
    have e : idx_main_v37 (ix4 r u j (0 : Fin 1)) = ix3 r (0 : Fin 1) j := by
      funext a
      match a with
      | ⟨0, _⟩ => rfl
      | ⟨1, _⟩ => rfl
      | ⟨2, _⟩ => rfl
    rw [e, dotLo_apply]

/-- and its second the high product. -/
theorem join_hi (r : Fin 32) (u : Fin 1) (j : Fin 9408) (o : Fin 2) (ho : o.val = 1) :
    val_main_v39 (F := Ideal) x0 x1 x2 x3 (ix4 r u j o) = outAt x0 x1 x2 x3 nibHi 1 r j := by
  unfold val_main_v39
  refine (concatenate_pair_apply_right (t := S32x1x9408x2) (s₁ := S32x1x9408x1) (s₂ := S32x1x9408x1) 3 _ _ _ (ix4 r u j o) rfl rfl
    (ix4 r u j (0 : Fin 1)) (fun b hb => ?_) ?_).trans ?_
  · match b, hb with
    | ⟨0, _⟩, _ => rfl
    | ⟨1, _⟩, _ => rfl
    | ⟨2, _⟩, _ => rfl
    | ⟨3, _⟩, hb => exact absurd rfl hb
  · show 0 + 1 = o.val; omega
  · rw [val_main_v38_apply]
    have e : idx_main_v38 (ix4 r u j (0 : Fin 1)) = ix3 r (0 : Fin 1) j := by
      funext a
      match a with
      | ⟨0, _⟩ => rfl
      | ⟨1, _⟩ => rfl
      | ⟨2, _⟩ => rfl
    rw [e, dotHi_apply]

/-- A change of format, with exact arithmetic, changes nothing. -/
theorem truncf_exact (y : EReal) : FloatOps.truncf (F := Ideal) .bf16 bitsLt_bf16_f32 y = y := rfl

/-- The reference's result is the layer's. -/
theorem result_eq : val_main_v41 (F := Ideal) x0 x1 x2 x3 = out x0 x1 x2 x3 := by
  funext i
  have h2 : (i 2).val < 18816 := (i 2).isLt
  have h1 : (i 1).val < 1 := (i 1).isLt
  have h0 : (i 0).val < 32 := (i 0).isLt
  let r : Fin 32 := i 0
  let j : Fin 9408 := ⟨(i 2).val / 2, by omega⟩
  let o : Fin 2 := ⟨(i 2).val % 2, by omega⟩
  have e : idx_main_v40 i = ix4 r (0 : Fin 1) j o := by
    funext a
    refine Fin.ext ?_
    match a with
    | ⟨0, _⟩ => show (((i 0).val * 1 + (i 1).val) * 18816 + (i 2).val) / 18816 = (i 0).val; omega
    | ⟨1, _⟩ => rfl
    | ⟨2, _⟩ => show (((i 0).val * 1 + (i 1).val) * 18816 + (i 2).val) / 2 % 9408 = (i 2).val / 2; omega
    | ⟨3, _⟩ => show (((i 0).val * 1 + (i 1).val) * 18816 + (i 2).val) % 2 = (i 2).val % 2; omega
  rw [val_main_v41_apply, val_main_v40_apply, e]
  refine (truncf_exact _).trans ?_
  unfold out
  split
  · rename_i h
    exact join_lo x0 x1 x2 x3 r 0 j o h
  · rename_i h
    exact join_hi x0 x1 x2 x3 r 0 j o (by show (i 2).val % 2 = 1; omega)

/-- THE RUN: the result is the layer's, the arguments are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v41) = out (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1.trans (val_main_v41_eq _ _ _ _)).trans (result_eq _ _ _ _), (h c).2⟩)
    (Cert.ReferenceIdeal.Value.run (F := Ideal) m ρ)

end Cert.ReferenceIdeal.Hand

end
-- ==== Proof.Equation.lean ====
/-
  THE EQUATION: with exact arithmetic, the kernel and the reference end with the same result, from any arguments.
-/
module

public import proofs.«01_k».proof.Defs
public import proofs.«01_k».proof.Proof.KernelRun
public import proofs.«01_k».proof.Proof.RefValue

@[expose] public section

noncomputable section

namespace Cert.Hand

open Idealize.ShloMosaic Idealize.SL.Sem

/-- Kernel and reference both end with the layer's outputs of the common arguments. -/
theorem algebraic [hk : Cert.KernelIdeal.Facts] [hr : Cert.ReferenceIdeal.Facts] : Cert.algebraic_KernelIdeal_ReferenceIdeal :=
  fun m g m' g' _ hm => ⟨Cert.KernelIdeal.Hand.result m, Cert.KernelIdeal.Hand.run m g,
    (θ_run _ _ _).mono (fun _ h c => ⟨(h c).1.trans (by
        obtain ⟨h0, h1, h2, h3⟩ := hm c
        rw [h0, h1, h2, h3]
        rfl), (h c).2⟩)
      (Cert.ReferenceIdeal.Hand.run m' g')⟩

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.RefFrame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The certificate: the three frames, that the ideal reading is the printed program's, and that with exact arithmetic the kernel and
the reference end with equal results. -/
theorem claim : Cert.Claim := ⟨Cert.Kernel.Gen.facts, Cert.KernelIdeal.Gen.facts, Cert.ReferenceIdeal.Gen.facts,
  Cert.KernelIdeal.Hand.frame_bits, Cert.KernelIdeal.Hand.frame_ideal, Cert.ReferenceIdeal.Hand.frame_ref, trivial,
  Cert.Hand.algebraic⟩

end Cert.Proof

end
